-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_splits_cover [hPre_splits_cover : Cert.Pre_splits_cover.Facts] (m : (ℓ : Loc Cert.KernelIdeal.nD Cert.KernelIdeal.τ Cert.KernelIdeal.sig) → Buf (Elt Ideal) ℓ) : Prop :=
  ∀ c : Dev Cert.KernelIdeal.nD,
    (Cert.Pre_splits_cover.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_splits_cover [hPre_splits_cover : Cert.Pre_splits_cover.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_splits_cover.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_splits_cover [hKernelIdeal : Cert.KernelIdeal.Facts] [hPre_splits_cover : Cert.Pre_splits_cover.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_splits_cover m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_splits_cover [hReferenceIdeal : Cert.ReferenceIdeal.Facts] [hPre_splits_cover : Cert.Pre_splits_cover.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_splits_cover m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_splits_cover [hKernelIdeal : Cert.KernelIdeal.Facts] [hReferenceIdeal : Cert.ReferenceIdeal.Facts] [hPre_splits_cover : Cert.Pre_splits_cover.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_splits_cover m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_splits_cover : Cert.Pre_splits_cover.Facts),
    quiescent_Kernel (hKernel := hKernel)
    ∧ quiescent_KernelIdeal (hKernelIdeal := hKernelIdeal)
    ∧ quiescent_KernelIdeal_pre_splits_cover (hKernelIdeal := hKernelIdeal) (hPre_splits_cover := hPre_splits_cover)
    ∧ quiescent_ReferenceIdeal (hReferenceIdeal := hReferenceIdeal)
    ∧ quiescent_ReferenceIdeal_pre_splits_cover (hReferenceIdeal := hReferenceIdeal) (hPre_splits_cover := hPre_splits_cover)
    ∧ preserves_Kernel_KernelIdeal
    ∧ algebraic_KernelIdeal_ReferenceIdeal_pre_splits_cover (hKernelIdeal := hKernelIdeal) (hReferenceIdeal := hReferenceIdeal) (hPre_splits_cover := hPre_splits_cover)
-- ==== Pre_splits_cover.lean ====
abbrev S16290x256 : Shape := ⟨2, ![16290, 256]⟩
abbrev S16290x3x256 : Shape := ⟨3, ![16290, 3, 256]⟩
abbrev S181 : Shape := ⟨1, ![181]⟩
abbrev S256 : Shape := ⟨1, ![256]⟩
abbrev S_ : Shape := ⟨0, ![]⟩

class Facts : Prop where
  bcast_S_S181 : S_.BroadcastsInDim S181 (![] : Fin 0 → Fin S181.rank)
  reducesTo_S181_S_d0 : S181.ReducesTo [0] S_
  h_S_ : 0 < S_.numel
  bcast_S_S16290x256 : S_.BroadcastsInDim S16290x256 (![] : Fin 0 → Fin S16290x256.rank)

variable [Facts]

def fn {F : FTy → Type} [FloatOps F] (main_arg0 : FVec F S16290x256 .f32) (main_arg1 : FVec F S16290x3x256 .f32) (main_arg2 : IVec S181 32) (main_arg3 : FVec F S256 .f32) (main_arg4 : FVec F S256 .f32) : IVec S16290x256 1 :=
  let main_c : IVec S_ 32 := constantI S_ 32 0#32
  let main_v0 : IVec S181 32 := broadcastInDim S181 ![] bcast_S_S181 main_c
  let main_v1 : IVec S181 1 := cmpi .sge main_arg2 main_v0
  let main_c_0 : IVec S_ 32 := constantI S_ 32 16290#32
  let main_v2 : IVec S181 32 := broadcastInDim S181 ![] bcast_S_S181 main_c_0
  let main_v3 : IVec S181 1 := cmpi .sle main_arg2 main_v2
  let main_v4 : IVec S181 1 := andi main_v1 main_v3
  let main_c_1 : IVec S_ 1 := constantI S_ 1 1#1
  let main_v5 : IVec S_ 1 := (fun x v => Host.reduce IntOp.andi x v reducesTo_S181_S_d0 h_S_) main_v4 main_c_1
  let main_c_2 : IVec S_ 32 := constantI S_ 32 0#32
  let main_v6 : IVec S_ 32 := (fun x v => Host.reduce IntOp.addi x v reducesTo_S181_S_d0 h_S_) main_arg2 main_c_2
  let main_c_3 : IVec S_ 32 := constantI S_ 32 16290#32
  let main_v7 : IVec S_ 1 := cmpi .eq main_v6 main_c_3
  let main_v8 : FVec F S16290x256 .f32 := Host.absf main_arg0
  let main_cst : FVec F S_ .f32 := constant S_ .f32 0x7F800000#32
  let main_v9 : FVec F S16290x256 .f32 := broadcastInDim S16290x256 ![] bcast_S_S16290x256 main_cst
  let main_v10 : IVec S16290x256 1 := cmpf .olt main_v8 main_v9
  let main_v11 : IVec S_ 1 := andi main_v5 main_v7
  let main_v12 : IVec S16290x256 1 := broadcastInDim S16290x256 ![] bcast_S_S16290x256 main_v11
  let main_v13 : IVec S16290x256 1 := andi main_v10 main_v12
  main_v13
-- ==== Kernel.lean ====
abbrev S16290x256 : Shape := ⟨2, ![16290, 256]⟩
abbrev S16290x3x256 : Shape := ⟨3, ![16290, 3, 256]⟩
abbrev S181 : Shape := ⟨1, ![181]⟩
abbrev S256 : Shape := ⟨1, ![256]⟩
abbrev S_ : Shape := ⟨0, ![]⟩
abbrev S1x256 : Shape := ⟨2, ![1, 256]⟩
abbrev S3x16290x256 : Shape := ⟨3, ![3, 16290, 256]⟩
abbrev S1024x256 : Shape := ⟨2, ![1024, 256]⟩
abbrev S3x1024x256 : Shape := ⟨3, ![3, 1024, 256]⟩
abbrev S256x256 : Shape := ⟨2, ![256, 256]⟩
abbrev S256x640 : Shape := ⟨2, ![256, 640]⟩
abbrev S16384x256 : Shape := ⟨2, ![16384, 256]⟩
abbrev S3x16384x256 : Shape := ⟨3, ![3, 16384, 256]⟩
abbrev S1024x1 : Shape := ⟨2, ![1024, 1]⟩
abbrev S1x1 : Shape := ⟨2, ![1, 1]⟩
abbrev S1024 : Shape := ⟨1, ![1024]⟩
abbrev S1x1024x256 : Shape := ⟨3, ![1, 1024, 256]⟩
abbrev S256x1 : Shape := ⟨2, ![256, 1]⟩
abbrev S256x126 : Shape := ⟨2, ![256, 126]⟩
abbrev S256x128 : Shape := ⟨2, ![256, 128]⟩
abbrev S1024x128 : Shape := ⟨2, ![1024, 128]⟩
abbrev S1x1024x1 : Shape := ⟨3, ![1, 1024, 1]⟩

abbrev nBuf : Space → Nat
  | .hbm => 25
  | .vmem => 19
  | .smem => 0
  | _ => 0

abbrev bufTy : (tb : Table) → Fin (tcTables nBuf tb) → BufTy
  | .hbm, ⟨0, _⟩ => ⟨S16290x256, .f32⟩
  | .hbm, ⟨1, _⟩ => ⟨S16290x3x256, .f32⟩
  | .hbm, ⟨2, _⟩ => ⟨S181, .i32⟩
  | .hbm, ⟨3, _⟩ => ⟨S256, .f32⟩
  | .hbm, ⟨4, _⟩ => ⟨S256, .f32⟩
  | .hbm, ⟨5, _⟩ => ⟨S_, .i32⟩
  | .hbm, ⟨6, _⟩ => ⟨S_, .i32⟩
  | .hbm, ⟨7, _⟩ => ⟨S181, .i32⟩
  | .hbm, ⟨8, _⟩ => ⟨S181, .i32⟩
  | .hbm, ⟨9, _⟩ => ⟨S_, .i32⟩
  | .hbm, ⟨10, _⟩ => ⟨S256, .i32⟩
  | .hbm, ⟨11, _⟩ => ⟨S1x256, .i32⟩
  | .hbm, ⟨12, _⟩ => ⟨S_, .i32⟩
  | .hbm, ⟨13, _⟩ => ⟨S256, .i32⟩
  | .hbm, ⟨14, _⟩ => ⟨S1x256, .i32⟩
  | .hbm, ⟨15, _⟩ => ⟨S_, .i32⟩
  | .hbm, ⟨16, _⟩ => ⟨S_, .i32⟩
  | .hbm, ⟨17, _⟩ => ⟨S256, .i32⟩
  | .hbm, ⟨18, _⟩ => ⟨S1x256, .i32⟩
  | .hbm, ⟨19, _⟩ => ⟨S1x256, .f32⟩
  | .hbm, ⟨20, _⟩ => ⟨S1x256, .f32⟩
  | .hbm, ⟨21, _⟩ => ⟨S3x16290x256, .f32⟩
  | .hbm, ⟨22, _⟩ => ⟨S16290x256, .f32⟩
  | .hbm, ⟨23, _⟩ => ⟨S3x16290x256, .f32⟩
  | .hbm, ⟨24, _⟩ => ⟨S16290x3x256, .f32⟩
  | .local _ .vmem, ⟨0, _⟩ => ⟨S1x256, .i32⟩
  | .local _ .vmem, ⟨1, _⟩ => ⟨S1x256, .i32⟩
  | .local _ .vmem, ⟨2, _⟩ => ⟨S1x256, .i32⟩
  | .local _ .vmem, ⟨3, _⟩ => ⟨S1024x256, .f32⟩
  | .local _ .vmem, ⟨4, _⟩ => ⟨S1024x256, .f32⟩
  | .local _ .vmem, ⟨5, _⟩ => ⟨S3x1024x256, .f32⟩
  | .local _ .vmem, ⟨6, _⟩ => ⟨S3x1024x256, .f32⟩
  | .local _ .vmem, ⟨7, _⟩ => ⟨S1x256, .f32⟩
  | .local _ .vmem, ⟨8, _⟩ => ⟨S1x256, .f32⟩
  | .local _ .vmem, ⟨9, _⟩ => ⟨S1024x256, .f32⟩
  | .local _ .vmem, ⟨10, _⟩ => ⟨S1024x256, .f32⟩
  | .local _ .vmem, ⟨11, _⟩ => ⟨S3x1024x256, .f32⟩
  | .local _ .vmem, ⟨12, _⟩ => ⟨S3x1024x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x640, .f32⟩
  | .local _ .vmem, ⟨17, _⟩ => ⟨S16384x256, .bf16⟩
  | .local _ .vmem, ⟨18, _⟩ => ⟨S3x16384x256, .bf16⟩
  | _, _ => ⟨S16290x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call3_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v12 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c16_i32_5 : BitVec 32 := 16#32
  let v23 : BitVec 1 := Scalar.cmpi .slt arg0 c16_i32_5
  let v24 : BitVec 32 := Scalar.extui v23
  let c0_i32_6 : BitVec 32 := 0#32
  let v25 : BitVec 1 := Scalar.cmpi .ne v24 c0_i32_6
  v25

def k0_off1 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let v2 : BitVec 32 := Scalar.select v0 arg0 v1
  let c1024_i32_21 : BitVec 32 := 1024#32
  let v80 : BitVec 32 := Scalar.muli v2 c1024_i32_21
  let v81 : Index := Scalar.indexCast v80
  let c0_22 : Index := 0#32
  ![v81.toNat, 0]
def k0_off2 (i : grid0.Coords) : Fin 3 → Nat :=
  let c0_24 : Index := 0#32
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let v2 : BitVec 32 := Scalar.select v0 arg0 v1
  let c1024_i32_23 : BitVec 32 := 1024#32
  let v86 : BitVec 32 := Scalar.muli v2 c1024_i32_23
  let v87 : Index := Scalar.indexCast v86
  let c0_25 : Index := 0#32
  ![0, v87.toNat, 0]
def k0_cond4 (i : grid0.Coords) : BitVec 1 :=
  let arg0 : BitVec 32 := BitVec.ofNat 32 (i 0).val
  let c16_i32_8 : BitVec 32 := 16#32
  let v29 : BitVec 1 := Scalar.cmpi .sge arg0 c16_i32_8
  let v30 : BitVec 32 := Scalar.extui v29
  let c0_i32_9 : BitVec 32 := 0#32
  let v31 : BitVec 1 := Scalar.cmpi .ne v30 c0_i32_9
  v31

def k0_off3 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let v2 : BitVec 32 := Scalar.select v0 arg0 v1
  let c1024_i32_10 : BitVec 32 := 1024#32
  let v32 : BitVec 32 := Scalar.muli v2 c1024_i32_10
  let v33 : Index := Scalar.indexCast v32
  let c0_11 : Index := 0#32
  ![v33.toNat, 0]
def k0_off4 (i : grid0.Coords) : Fin 3 → Nat :=
  let c0_13 : Index := 0#32
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let v2 : BitVec 32 := Scalar.select v0 arg0 v1
  let c1024_i32_12 : BitVec 32 := 1024#32
  let v36 : BitVec 32 := Scalar.muli v2 c1024_i32_12
  let v37 : Index := Scalar.indexCast v36
  let c0_14 : Index := 0#32
  ![0, v37.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let v0 : BitVec 1 := Scalar.cmpi .slt arg0 c16_i32
  let c0_i32 : BitVec 32 := 0#32
  let v1 : BitVec 32 := Scalar.select v0 arg0 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let c16_i32 : BitVec 32 := 16#32
  let v0 : BitVec 1 := Scalar.cmpi .slt arg0 c16_i32
  let c0_i32 : BitVec 32 := 0#32
  let v1 : BitVec 32 := Scalar.select v0 arg0 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

def cc0_transform_8 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c0_i32 : BitVec 32 := 0#32
  let v2 : BitVec 32 := Scalar.select v0 c0_i32 v1
  let c0_i32_1 : BitVec 32 := 0#32
  let c0_i32_2 : BitVec 32 := 0#32
  let c0_i32_3 : BitVec 32 := 0#32
  ![c0_i32_1.toNat, v2.toNat, c0_i32_2.toNat]

abbrev stage0_0 : Fin 1 → Memref sig .tc .vmem S1x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16290x256 : Shape := ⟨2, ![16290, 256]⟩
abbrev S16290x3x256 : Shape := ⟨3, ![16290, 3, 256]⟩
abbrev S181 : Shape := ⟨1, ![181]⟩
abbrev S256 : Shape := ⟨1, ![256]⟩
abbrev S1 : Shape := ⟨1, ![1]⟩
abbrev S180 : Shape := ⟨1, ![180]⟩
abbrev S_ : Shape := ⟨0, ![]⟩
abbrev S16290 : Shape := ⟨1, ![16290]⟩
abbrev S181x1 : Shape := ⟨2, ![181, 1]⟩
abbrev S16290x1 : Shape := ⟨2, ![16290, 1]⟩
abbrev S1x1 : Shape := ⟨2, ![1, 1]⟩
abbrev S181x256 : Shape := ⟨2, ![181, 256]⟩
abbrev S1x256 : Shape := ⟨2, ![1, 256]⟩
abbrev S16290x1x1 : Shape := ⟨3, ![16290, 1, 1]⟩

abbrev nBuf : Space → Nat
  | .hbm => 246
  | .vmem => 0
  | .smem => 0
  | _ => 0

abbrev hbmTy0_0 (i : Nat) : BufTy := match i % 128 with
  | 0 => ⟨S16290x256, .f32⟩
  | 1 => ⟨S16290x3x256, .f32⟩
  | 2 => ⟨S181, .i32⟩
  | 3 => ⟨S256, .f32⟩
  | 4 => ⟨S256, .f32⟩
  | 5 => ⟨S181, .i32⟩
  | 6 => ⟨S1, .i32⟩
  | 7 => ⟨S180, .i32⟩
  | 8 => ⟨S181, .i32⟩
  | 9 => ⟨S_, .i32⟩
  | 10 => ⟨S1, .i32⟩
  | 11 => ⟨S_, .i32⟩
  | 12 => ⟨S181, .i32⟩
  | 13 => ⟨S_, .i32⟩
  | 14 => ⟨S_, .i32⟩
  | 15 => ⟨S181, .i32⟩
  | 16 => ⟨S_, .i32⟩
  | 17 => ⟨S16290, .i32⟩
  | 18 => ⟨S_, .i32⟩
  | 19 => ⟨S181, .i32⟩
  | 20 => ⟨S181, .i1⟩
  | 21 => ⟨S_, .i32⟩
  | 22 => ⟨S181, .i32⟩
  | 23 => ⟨S181, .i32⟩
  | 24 => ⟨S181, .i32⟩
  | 25 => ⟨S181x1, .i32⟩
  | 26 => ⟨S_, .i32⟩
  | 27 => ⟨S181, .i32⟩
  | 28 => ⟨S16290, .i32⟩
  | 29 => ⟨S_, .i32⟩
  | 30 => ⟨S_, .i32⟩
  | 31 => ⟨S16290, .i32⟩
  | 32 => ⟨S_, .i32⟩
  | 33 => ⟨S16290, .i32⟩
  | 34 => ⟨S16290, .i32⟩
  | 35 => ⟨S_, .i32⟩
  | 36 => ⟨S16290, .i32⟩
  | 37 => ⟨S16290, .i1⟩
  | 38 => ⟨S_, .i32⟩
  | 39 => ⟨S16290, .i32⟩
  | 40 => ⟨S16290, .i32⟩
  | 41 => ⟨S16290, .i32⟩
  | 42 => ⟨S16290x1, .i32⟩
  | 43 => ⟨S1, .i32⟩
  | 44 => ⟨S_, .i32⟩
  | 45 => ⟨S16290x1, .i32⟩
  | 46 => ⟨S16290x1, .i1⟩
  | 47 => ⟨S1x1, .i32⟩
  | 48 => ⟨S16290x1, .i32⟩
  | 49 => ⟨S16290x1, .i1⟩
  | 50 => ⟨S16290x1, .i1⟩
  | 51 => ⟨S_, .i1⟩
  | 52 => ⟨S16290, .i1⟩
  | 53 => ⟨S16290, .i32⟩
  | 54 => ⟨S_, .i32⟩
  | 55 => ⟨S16290, .i32⟩
  | 56 => ⟨S16290, .i32⟩
  | 57 => ⟨S_, .f32⟩
  | 58 => ⟨S16290, .f32⟩
  | 59 => ⟨S16290x1, .f32⟩
  | 60 => ⟨S_, .f32⟩
  | 61 => ⟨S16290x1, .f32⟩
  | 62 => ⟨S16290x1, .f32⟩
  | 63 => ⟨S16290x256, .f32⟩
  | 64 => ⟨S16290x256, .f32⟩
  | 65 => ⟨S_, .f32⟩
  | 66 => ⟨S181x256, .f32⟩
  | 67 => ⟨S16290x1, .i32⟩
  | 68 => ⟨S181x256, .f32⟩
  | 69 => ⟨S_, .i32⟩
  | 70 => ⟨S181, .i32⟩
  | 71 => ⟨S181, .i32⟩
  | 72 => ⟨S181, .f32⟩
  | 73 => ⟨S181x1, .f32⟩
  | 74 => ⟨S181x256, .f32⟩
  | 75 => ⟨S181x256, .f32⟩
  | 76 => ⟨S_, .i32⟩
  | 77 => ⟨S16290, .i32⟩
  | 78 => ⟨S16290, .i1⟩
  | 79 => ⟨S_, .i32⟩
  | 80 => ⟨S16290, .i32⟩
  | 81 => ⟨S16290, .i32⟩
  | 82 => ⟨S16290, .i32⟩
  | 83 => ⟨S16290x1, .i32⟩
  | 84 => ⟨S16290x256, .f32⟩
  | 85 => ⟨S16290x256, .f32⟩
  | 86 => ⟨S16290x256, .f32⟩
  | 87 => ⟨S_, .f32⟩
  | 88 => ⟨S181x256, .f32⟩
  | 89 => ⟨S16290x1, .i32⟩
  | 90 => ⟨S181x256, .f32⟩
  | 91 => ⟨S_, .i32⟩
  | 92 => ⟨S181, .i32⟩
  | 93 => ⟨S181, .i32⟩
  | 94 => ⟨S181, .f32⟩
  | 95 => ⟨S181x1, .f32⟩
  | 96 => ⟨S181x256, .f32⟩
  | 97 => ⟨S181x256, .f32⟩
  | 98 => ⟨S_, .f32⟩
  | 99 => ⟨S181, .f32⟩
  | 100 => ⟨S181x1, .f32⟩
  | 101 => ⟨S_, .f32⟩
  | 102 => ⟨S181x1, .f32⟩
  | 103 => ⟨S181x1, .f32⟩
  | 104 => ⟨S1, .i32⟩
  | 105 => ⟨S180, .i32⟩
  | 106 => ⟨S181, .i32⟩
  | 107 => ⟨S_, .i32⟩
  | 108 => ⟨S1, .i32⟩
  | 109 => ⟨S_, .i32⟩
  | 110 => ⟨S181, .i32⟩
  | 111 => ⟨S_, .i32⟩
  | 112 => ⟨S_, .i32⟩
  | 113 => ⟨S181, .i32⟩
  | 114 => ⟨S_, .i32⟩
  | 115 => ⟨S16290, .i32⟩
  | 116 => ⟨S_, .i32⟩
  | 117 => ⟨S181, .i32⟩
  | 118 => ⟨S181, .i1⟩
  | 119 => ⟨S_, .i32⟩
  | 120 => ⟨S181, .i32⟩
  | 121 => ⟨S181, .i32⟩
  | 122 => ⟨S181, .i32⟩
  | 123 => ⟨S181x1, .i32⟩
  | 124 => ⟨S_, .i32⟩
  | 125 => ⟨S181, .i32⟩
  | 126 => ⟨S16290, .i32⟩
  | 127 => ⟨S_, .i32⟩
  | _ => ⟨S16290x256, .f32⟩

abbrev hbmTy0_1 (i : Nat) : BufTy := match i % 128 with
  | 0 => ⟨S_, .i32⟩
  | 1 => ⟨S16290, .i32⟩
  | 2 => ⟨S_, .i32⟩
  | 3 => ⟨S16290, .i32⟩
  | 4 => ⟨S16290, .i32⟩
  | 5 => ⟨S_, .i32⟩
  | 6 => ⟨S16290, .i32⟩
  | 7 => ⟨S16290, .i1⟩
  | 8 => ⟨S_, .i32⟩
  | 9 => ⟨S16290, .i32⟩
  | 10 => ⟨S16290, .i32⟩
  | 11 => ⟨S16290, .i32⟩
  | 12 => ⟨S16290x1, .i32⟩
  | 13 => ⟨S1, .i32⟩
  | 14 => ⟨S_, .i32⟩
  | 15 => ⟨S16290x1, .i32⟩
  | 16 => ⟨S16290x1, .i1⟩
  | 17 => ⟨S1x1, .i32⟩
  | 18 => ⟨S16290x1, .i32⟩
  | 19 => ⟨S16290x1, .i1⟩
  | 20 => ⟨S16290x1, .i1⟩
  | 21 => ⟨S_, .i1⟩
  | 22 => ⟨S16290, .i1⟩
  | 23 => ⟨S16290x1, .f32⟩
  | 24 => ⟨S16290x1, .i1⟩
  | 25 => ⟨S_, .f32⟩
  | 26 => ⟨S16290x1, .f32⟩
  | 27 => ⟨S16290x1, .f32⟩
  | 28 => ⟨S_, .f32⟩
  | 29 => ⟨S16290x1, .f32⟩
  | 30 => ⟨S16290x1, .f32⟩
  | 31 => ⟨S16290x1, .f32⟩
  | 32 => ⟨S16290x256, .f32⟩
  | 33 => ⟨S16290x256, .f32⟩
  | 34 => ⟨S1x256, .f32⟩
  | 35 => ⟨S16290x256, .f32⟩
  | 36 => ⟨S16290x256, .f32⟩
  | 37 => ⟨S1x256, .f32⟩
  | 38 => ⟨S16290x256, .f32⟩
  | 39 => ⟨S16290x256, .f32⟩
  | 40 => ⟨S16290x3x256, .f32⟩
  | 41 => ⟨S_, .f32⟩
  | 42 => ⟨S16290x256, .f32⟩
  | 43 => ⟨S_, .f32⟩
  | 44 => ⟨S16290x256, .f32⟩
  | 45 => ⟨S16290x256, .f32⟩
  | 46 => ⟨S16290x256, .f32⟩
  | 47 => ⟨S_, .f32⟩
  | 48 => ⟨S16290, .f32⟩
  | 49 => ⟨S16290x1, .f32⟩
  | 50 => ⟨S_, .f32⟩
  | 51 => ⟨S16290x1, .f32⟩
  | 52 => ⟨S16290x1, .f32⟩
  | 53 => ⟨S_, .f32⟩
  | 54 => ⟨S181x1, .f32⟩
  | 55 => ⟨S16290x1, .i32⟩
  | 56 => ⟨S181x1, .f32⟩
  | 57 => ⟨S_, .i32⟩
  | 58 => ⟨S181, .i32⟩
  | 59 => ⟨S181, .i32⟩
  | 60 => ⟨S181, .f32⟩
  | 61 => ⟨S181x1, .f32⟩
  | 62 => ⟨S181x1, .f32⟩
  | 63 => ⟨S1, .i32⟩
  | 64 => ⟨S180, .i32⟩
  | 65 => ⟨S181, .i32⟩
  | 66 => ⟨S_, .i32⟩
  | 67 => ⟨S1, .i32⟩
  | 68 => ⟨S_, .i32⟩
  | 69 => ⟨S181, .i32⟩
  | 70 => ⟨S_, .i32⟩
  | 71 => ⟨S_, .i32⟩
  | 72 => ⟨S181, .i32⟩
  | 73 => ⟨S_, .i32⟩
  | 74 => ⟨S16290, .i32⟩
  | 75 => ⟨S_, .i32⟩
  | 76 => ⟨S181, .i32⟩
  | 77 => ⟨S181, .i1⟩
  | 78 => ⟨S_, .i32⟩
  | 79 => ⟨S181, .i32⟩
  | 80 => ⟨S181, .i32⟩
  | 81 => ⟨S181, .i32⟩
  | 82 => ⟨S181x1, .i32⟩
  | 83 => ⟨S_, .i32⟩
  | 84 => ⟨S181, .i32⟩
  | 85 => ⟨S16290, .i32⟩
  | 86 => ⟨S_, .i32⟩
  | 87 => ⟨S_, .i32⟩
  | 88 => ⟨S16290, .i32⟩
  | 89 => ⟨S_, .i32⟩
  | 90 => ⟨S16290, .i32⟩
  | 91 => ⟨S16290, .i32⟩
  | 92 => ⟨S_, .i32⟩
  | 93 => ⟨S16290, .i32⟩
  | 94 => ⟨S16290, .i1⟩
  | 95 => ⟨S_, .i32⟩
  | 96 => ⟨S16290, .i32⟩
  | 97 => ⟨S16290, .i32⟩
  | 98 => ⟨S16290, .i32⟩
  | 99 => ⟨S16290x1, .i32⟩
  | 100 => ⟨S1, .i32⟩
  | 101 => ⟨S_, .i32⟩
  | 102 => ⟨S16290x1, .i32⟩
  | 103 => ⟨S16290x1, .i1⟩
  | 104 => ⟨S1x1, .i32⟩
  | 105 => ⟨S16290x1, .i32⟩
  | 106 => ⟨S16290x1, .i1⟩
  | 107 => ⟨S16290x1, .i1⟩
  | 108 => ⟨S_, .i1⟩
  | 109 => ⟨S16290, .i1⟩
  | 110 => ⟨S16290x1, .f32⟩
  | 111 => ⟨S16290x1, .i1⟩
  | 112 => ⟨S_, .f32⟩
  | 113 => ⟨S16290x1, .f32⟩
  | 114 => ⟨S16290x1, .f32⟩
  | 115 => ⟨S16290x1x1, .f32⟩
  | 116 => ⟨S16290x3x256, .f32⟩
  | 117 => ⟨S16290x3x256, .f32⟩
  | _ => ⟨S16290x256, .f32⟩

abbrev hbmTy (i : Nat) : BufTy := match i / 128 with
  | 0 => hbmTy0_0 i
  | 1 => hbmTy0_1 i
  | _ => ⟨S16290x256, .f32⟩

abbrev bufTy : (tb : Table) → Fin (tcTables nBuf tb) → BufTy
  | .hbm, ⟨i, _⟩ => hbmTy i
  | _, _ => ⟨S16290x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_call1_call0_c : Ref sig .tc := ⟨.hbm, 13, rfl⟩
abbrev main_call1_call0_v0 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_call2_call0_c : Ref sig .tc := ⟨.hbm, 29, rfl⟩
abbrev main_call2_call0_v0 : Ref sig .tc := ⟨.hbm, 30, rfl⟩
abbrev main_v14 : Ref sig .tc := ⟨.hbm, 31, rfl⟩
abbrev main_c_5 : Ref sig .tc := ⟨.hbm, 32, rfl⟩
abbrev main_v15 : Ref sig .tc := ⟨.hbm, 33, rfl⟩
abbrev main_v16 : Ref sig .tc := ⟨.hbm, 34, rfl⟩
abbrev main_call3_c : Ref sig .tc := ⟨.hbm, 35, rfl⟩
abbrev main_call3_v0 : Ref sig .tc := ⟨.hbm, 36, rfl⟩
abbrev main_call3_v1 : Ref sig .tc := ⟨.hbm, 37, rfl⟩
abbrev main_call3_c_0 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_c_1 : Ref sig .tc := ⟨.hbm, 43, rfl⟩
abbrev main_call3_c_2 : Ref sig .tc := ⟨.hbm, 44, rfl⟩
abbrev main_call3_v6 : Ref sig .tc := ⟨.hbm, 45, rfl⟩
abbrev main_call3_v7 : Ref sig .tc := ⟨.hbm, 46, rfl⟩
abbrev main_call3_v8 : Ref sig .tc := ⟨.hbm, 47, rfl⟩
abbrev main_call3_v9 : Ref sig .tc := ⟨.hbm, 48, rfl⟩
abbrev main_call3_v10 : Ref sig .tc := ⟨.hbm, 49, rfl⟩
abbrev main_call3_v11 : Ref sig .tc := ⟨.hbm, 50, rfl⟩
abbrev main_call3_c_3 : Ref sig .tc := ⟨.hbm, 51, rfl⟩
abbrev main_call3_v12 : Ref sig .tc := ⟨.hbm, 52, rfl⟩
abbrev main_call3_v13 : Ref sig .tc := ⟨.hbm, 53, rfl⟩
abbrev main_call3_c_4 : Ref sig .tc := ⟨.hbm, 54, rfl⟩
abbrev main_call3_v14 : Ref sig .tc := ⟨.hbm, 55, rfl⟩
abbrev main_v17 : Ref sig .tc := ⟨.hbm, 56, rfl⟩
abbrev main_cst : Ref sig .tc := ⟨.hbm, 57, rfl⟩
abbrev main_v18 : Ref sig .tc := ⟨.hbm, 58, rfl⟩
abbrev main_v19 : Ref sig .tc := ⟨.hbm, 59, rfl⟩
abbrev main_cst_6 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_7 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_c_8 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_c_9 : Ref sig .tc := ⟨.hbm, 76, rfl⟩
abbrev main_v33 : Ref sig .tc := ⟨.hbm, 77, rfl⟩
abbrev main_v34 : Ref sig .tc := ⟨.hbm, 78, rfl⟩
abbrev main_c_10 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_cst_11 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_c_12 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_cst_13 : Ref sig .tc := ⟨.hbm, 98, rfl⟩
abbrev main_v51 : Ref sig .tc := ⟨.hbm, 99, rfl⟩
abbrev main_v52 : Ref sig .tc := ⟨.hbm, 100, rfl⟩
abbrev main_cst_14 : Ref sig .tc := ⟨.hbm, 101, rfl⟩
abbrev main_v53 : Ref sig .tc := ⟨.hbm, 102, rfl⟩
abbrev main_v54 : Ref sig .tc := ⟨.hbm, 103, rfl⟩
abbrev main_call4_v0 : Ref sig .tc := ⟨.hbm, 104, rfl⟩
abbrev main_call4_v1 : Ref sig .tc := ⟨.hbm, 105, rfl⟩
abbrev main_v55 : Ref sig .tc := ⟨.hbm, 106, rfl⟩
abbrev main_c_15 : Ref sig .tc := ⟨.hbm, 107, rfl⟩
abbrev main_v56 : Ref sig .tc := ⟨.hbm, 108, rfl⟩
abbrev main_c_16 : Ref sig .tc := ⟨.hbm, 109, rfl⟩
abbrev main_v57 : Ref sig .tc := ⟨.hbm, 110, rfl⟩
abbrev main_call5_call0_c : Ref sig .tc := ⟨.hbm, 111, rfl⟩
abbrev main_call5_call0_v0 : Ref sig .tc := ⟨.hbm, 112, rfl⟩
abbrev main_v58 : Ref sig .tc := ⟨.hbm, 113, rfl⟩
abbrev main_c_17 : Ref sig .tc := ⟨.hbm, 114, rfl⟩
abbrev main_v59 : Ref sig .tc := ⟨.hbm, 115, rfl⟩
abbrev main_c_18 : Ref sig .tc := ⟨.hbm, 116, rfl⟩
abbrev main_v60 : Ref sig .tc := ⟨.hbm, 117, rfl⟩
abbrev main_v61 : Ref sig .tc := ⟨.hbm, 118, rfl⟩
abbrev main_c_19 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_c_20 : Ref sig .tc := ⟨.hbm, 124, rfl⟩
abbrev main_v66 : Ref sig .tc := ⟨.hbm, 125, rfl⟩
abbrev main_v67 : Ref sig .tc := ⟨.hbm, 126, rfl⟩
abbrev main_call6_call0_c : Ref sig .tc := ⟨.hbm, 127, rfl⟩
abbrev main_call6_call0_v0 : Ref sig .tc := ⟨.hbm, 128, rfl⟩
abbrev main_v68 : Ref sig .tc := ⟨.hbm, 129, rfl⟩
abbrev main_c_21 : Ref sig .tc := ⟨.hbm, 130, rfl⟩
abbrev main_v69 : Ref sig .tc := ⟨.hbm, 131, rfl⟩
abbrev main_v70 : Ref sig .tc := ⟨.hbm, 132, rfl⟩
abbrev main_call7_c : Ref sig .tc := ⟨.hbm, 133, rfl⟩
abbrev main_call7_v0 : Ref sig .tc := ⟨.hbm, 134, rfl⟩
abbrev main_call7_v1 : Ref sig .tc := ⟨.hbm, 135, rfl⟩
abbrev main_call7_c_0 : Ref sig .tc := ⟨.hbm, 136, rfl⟩
abbrev main_call7_v2 : Ref sig .tc := ⟨.hbm, 137, rfl⟩
abbrev main_call7_v3 : Ref sig .tc := ⟨.hbm, 138, rfl⟩
abbrev main_call7_v4 : Ref sig .tc := ⟨.hbm, 139, rfl⟩
abbrev main_call7_v5 : Ref sig .tc := ⟨.hbm, 140, rfl⟩
abbrev main_call7_c_1 : Ref sig .tc := ⟨.hbm, 141, rfl⟩
abbrev main_call7_c_2 : Ref sig .tc := ⟨.hbm, 142, rfl⟩
abbrev main_call7_v6 : Ref sig .tc := ⟨.hbm, 143, rfl⟩
abbrev main_call7_v7 : Ref sig .tc := ⟨.hbm, 144, rfl⟩
abbrev main_call7_v8 : Ref sig .tc := ⟨.hbm, 145, rfl⟩
abbrev main_call7_v9 : Ref sig .tc := ⟨.hbm, 146, rfl⟩
abbrev main_call7_v10 : Ref sig .tc := ⟨.hbm, 147, rfl⟩
abbrev main_call7_v11 : Ref sig .tc := ⟨.hbm, 148, rfl⟩
abbrev main_call7_c_3 : Ref sig .tc := ⟨.hbm, 149, rfl⟩
abbrev main_call7_v12 : Ref sig .tc := ⟨.hbm, 150, rfl⟩
abbrev main_call7_v13 : Ref sig .tc := ⟨.hbm, 151, rfl⟩
abbrev main_call7_v14 : Ref sig .tc := ⟨.hbm, 152, rfl⟩
abbrev main_call7_cst : Ref sig .tc := ⟨.hbm, 153, rfl⟩
abbrev main_call7_v15 : Ref sig .tc := ⟨.hbm, 154, rfl⟩
abbrev main_v71 : Ref sig .tc := ⟨.hbm, 155, rfl⟩
abbrev main_cst_22 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_cst_23 : Ref sig .tc := ⟨.hbm, 169, rfl⟩
abbrev main_v84 : Ref sig .tc := ⟨.hbm, 170, rfl⟩
abbrev main_cst_24 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_cst_25 : Ref sig .tc := ⟨.hbm, 175, rfl⟩
abbrev main_v88 : Ref sig .tc := ⟨.hbm, 176, rfl⟩
abbrev main_v89 : Ref sig .tc := ⟨.hbm, 177, rfl⟩
abbrev main_cst_26 : Ref sig .tc := ⟨.hbm, 178, rfl⟩
abbrev main_v90 : Ref sig .tc := ⟨.hbm, 179, rfl⟩
abbrev main_v91 : Ref sig .tc := ⟨.hbm, 180, rfl⟩
abbrev main_cst_27 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_c_28 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_call8_v0 : Ref sig .tc := ⟨.hbm, 191, rfl⟩
abbrev main_call8_v1 : Ref sig .tc := ⟨.hbm, 192, rfl⟩
abbrev main_v100 : Ref sig .tc := ⟨.hbm, 193, rfl⟩
abbrev main_c_29 : Ref sig .tc := ⟨.hbm, 194, rfl⟩
abbrev main_v101 : Ref sig .tc := ⟨.hbm, 195, rfl⟩
abbrev main_c_30 : Ref sig .tc := ⟨.hbm, 196, rfl⟩
abbrev main_v102 : Ref sig .tc := ⟨.hbm, 197, rfl⟩
abbrev main_call9_call0_c : Ref sig .tc := ⟨.hbm, 198, rfl⟩
abbrev main_call9_call0_v0 : Ref sig .tc := ⟨.hbm, 199, rfl⟩
abbrev main_v103 : Ref sig .tc := ⟨.hbm, 200, rfl⟩
abbrev main_c_31 : Ref sig .tc := ⟨.hbm, 201, rfl⟩
abbrev main_v104 : Ref sig .tc := ⟨.hbm, 202, rfl⟩
abbrev main_c_32 : Ref sig .tc := ⟨.hbm, 203, rfl⟩
abbrev main_v105 : Ref sig .tc := ⟨.hbm, 204, rfl⟩
abbrev main_v106 : Ref sig .tc := ⟨.hbm, 205, rfl⟩
abbrev main_c_33 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_c_34 : Ref sig .tc := ⟨.hbm, 211, rfl⟩
abbrev main_v111 : Ref sig .tc := ⟨.hbm, 212, rfl⟩
abbrev main_v112 : Ref sig .tc := ⟨.hbm, 213, rfl⟩
abbrev main_call10_call0_c : Ref sig .tc := ⟨.hbm, 214, rfl⟩
abbrev main_call10_call0_v0 : Ref sig .tc := ⟨.hbm, 215, rfl⟩
abbrev main_v113 : Ref sig .tc := ⟨.hbm, 216, rfl⟩
abbrev main_c_35 : Ref sig .tc := ⟨.hbm, 217, rfl⟩
abbrev main_v114 : Ref sig .tc := ⟨.hbm, 218, rfl⟩
abbrev main_v115 : Ref sig .tc := ⟨.hbm, 219, rfl⟩
abbrev main_call11_c : Ref sig .tc := ⟨.hbm, 220, rfl⟩
abbrev main_call11_v0 : Ref sig .tc := ⟨.hbm, 221, rfl⟩
abbrev main_call11_v1 : Ref sig .tc := ⟨.hbm, 222, rfl⟩
abbrev main_call11_c_0 : Ref sig .tc := ⟨.hbm, 223, rfl⟩
abbrev main_call11_v2 : Ref sig .tc := ⟨.hbm, 224, rfl⟩
abbrev main_call11_v3 : Ref sig .tc := ⟨.hbm, 225, rfl⟩
abbrev main_call11_v4 : Ref sig .tc := ⟨.hbm, 226, rfl⟩
abbrev main_call11_v5 : Ref sig .tc := ⟨.hbm, 227, rfl⟩
abbrev main_call11_c_1 : Ref sig .tc := ⟨.hbm, 228, rfl⟩
abbrev main_call11_c_2 : Ref sig .tc := ⟨.hbm, 229, rfl⟩
abbrev main_call11_v6 : Ref sig .tc := ⟨.hbm, 230, rfl⟩
abbrev main_call11_v7 : Ref sig .tc := ⟨.hbm, 231, rfl⟩
abbrev main_call11_v8 : Ref sig .tc := ⟨.hbm, 232, rfl⟩
abbrev main_call11_v9 : Ref sig .tc := ⟨.hbm, 233, rfl⟩
abbrev main_call11_v10 : Ref sig .tc := ⟨.hbm, 234, rfl⟩
abbrev main_call11_v11 : Ref sig .tc := ⟨.hbm, 235, rfl⟩
abbrev main_call11_c_3 : Ref sig .tc := ⟨.hbm, 236, rfl⟩
abbrev main_call11_v12 : Ref sig .tc := ⟨.hbm, 237, rfl⟩
abbrev main_call11_v13 : Ref sig .tc := ⟨.hbm, 238, rfl⟩
abbrev main_call11_v14 : Ref sig .tc := ⟨.hbm, 239, rfl⟩
abbrev main_call11_cst : Ref sig .tc := ⟨.hbm, 240, rfl⟩
abbrev main_call11_v15 : Ref sig .tc := ⟨.hbm, 241, rfl⟩
abbrev main_v116 : Ref sig .tc := ⟨.hbm, 242, rfl⟩
abbrev main_v117 : Ref sig .tc := ⟨.hbm, 243, rfl⟩
abbrev main_v118 : Ref sig .tc := ⟨.hbm, 244, rfl⟩
abbrev main_v119 : Ref sig .tc := ⟨.hbm, 245, rfl⟩

abbrev nD : Nat := 1
abbrev τ : Topo := Topo.v7x

variable {F : FTy → Type} [FloatOps F]
-- ==== Proof.KernelIdealBody.lean ====
/-
  One run of the kernel function, at each kind of grid point, on any memrefs it may be handed.  The grid has 32 points: the first 16
  read a block of rows and accumulate per-segment sums (the first of them clears the accumulators, the last one turns the sums into
  per-segment means and reciprocals), the other 16 normalise one block of rows each.  Each theorem runs the function from named
  contents of the buffers it touches and says what it leaves in every one of them.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.VecWindow

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.VecWindow (window put)
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The conditions and the block number -/

/-- The point clears the accumulators. -/
abbrev isFirst (i : grid0.Coords) : Prop :=
  Scalar.cmpi .ne (Scalar.extui (Scalar.cmpi .eq (BitVec.ofNat 32 (i 0).val) 0#32) : BitVec 32) 0#32 = 1#1
/-- The point turns the accumulated sums into means and reciprocals. -/
abbrev isLast (i : grid0.Coords) : Prop :=
  Scalar.cmpi .ne (Scalar.extui (Scalar.cmpi .eq (BitVec.ofNat 32 (i 0).val) 15#32) : BitVec 32) 0#32 = 1#1
/-- The block of rows the point works on: its coordinate, or its coordinate less 16. -/
abbrev blk (i : grid0.Coords) : BitVec 32 :=
  Scalar.select (Scalar.cmpi .slt (BitVec.ofNat 32 (i 0).val) 16#32) (BitVec.ofNat 32 (i 0).val)
    (Scalar.subi (BitVec.ofNat 32 (i 0).val) 16#32)

/-! ## What a point computes, as functions of the contents it reads -/

/-- The last entry of the segment ends: how many rows there are. -/
abbrev lastEnd (x2 : Vec F S1x256 .i32) : Vec F S1x1 .i32 := window x2 ![0, 255] S1x1.size inb_S1x256_S1x1_0_255
/-- The block's rows centred over the channels, rows past the end replaced by zero. -/
def rows0 (i : grid0.Coords) (x2 : Vec F S1x256 .i32) (x4 : Vec F S1024x256 .f32) : FVec F S1024x256 .f32 :=
  k0_pay14 (blk i) (lastEnd x2) x4
/-- The block's vector norms, rows past the end replaced by zero. -/
def norms (i : grid0.Coords) (x2 : Vec F S1x256 .i32) (x5 : Vec F S3x1024x256 .f32) : FVec F S1024x256 .f32 :=
  k0_pay16 (blk i) (lastEnd x2) x5
/-- The sums of the centred rows after the block. -/
def sums1 (i : grid0.Coords) (x1 x2 : Vec F S1x256 .i32) (x4 : Vec F S1024x256 .f32) (a : Vec F S256x256 .f32) : Vec F S256x256 .f32 :=
  k0_pay7 i x1 x2 (rows0 i x2 x4) a
/-- The sums of their squares after the block. -/
def sums2 (i : grid0.Coords) (x1 x2 : Vec F S1x256 .i32) (x4 : Vec F S1024x256 .f32) (a : Vec F S256x256 .f32) : Vec F S256x256 .f32 :=
  k0_pay8 i x1 x2 (rows0 i x2 x4) a
/-- The sums of the norms after the block. -/
def sums3 (i : grid0.Coords) (x1 x2 : Vec F S1x256 .i32) (x5 : Vec F S3x1024x256 .f32) (a : Vec F S256x256 .f32) : Vec F S256x256 .f32 :=
  k0_pay9 i x1 x2 (norms i x2 x5) a
/-- The kept centred rows after the block. -/
def keep1 (i : grid0.Coords) (x2 : Vec F S1x256 .i32) (x4 : Vec F S1024x256 .f32) (a : Vec F S16384x256 .bf16) : Vec F S16384x256 .bf16 :=
  put a (k0_off1 i) S1024x256.size (k0_pay5 (rows0 i x2 x4))
/-- The kept vector rows after the block. -/
def keep2 (i : grid0.Coords) (x5 : Vec F S3x1024x256 .f32) (a : Vec F S3x16384x256 .bf16) : Vec F S3x16384x256 .bf16 :=
  put a (k0_off2 i) S3x1024x256.size (k0_pay6 (k0_pay15 x5))
/-- The table of means (in two parts) and reciprocals made of the counts and the three sums. -/
def table (x3 : Vec F S1x256 .i32) (a1 a2 a3 : Vec F S256x256 .f32) (g : Vec F S256x640 .f32) : Vec F S256x640 .f32 :=
  put (put (put g ![0, 0] S256x256.size (k0_pay10 (k0_pay21 x3 a1)))
      ![0, 256] S256x256.size (k0_pay11 (k0_pay18 x3 a1) (k0_pay21 x3 a1)))
    ![0, 512] S256x128.size (k0_pay12 (k0_pay19 x3 a1 a2) (k0_pay20 x3 a3))
/-- The block of the first result. -/
def out1 (i : grid0.Coords) (h4 : k0_cond4 i = 1#1) (x1 x2 : Vec F S1x256 .i32) (x6 x7 : Vec F S1x256 .f32) (g : Vec F S256x640 .f32)
    (a : Vec F S16384x256 .bf16) : FVec F S1024x256 .f32 :=
  k0_pay23 (k0_pay1 i x1 x2) (window a (k0_off3 i) S1024x256.size (k0_off3_inb i h4))
    (window g ![0, 0] S256x256.size inb_S256x640_S256x256_0_0) (window g ![0, 256] S256x256.size inb_S256x640_S256x256_0_256)
    (window g ![0, 512] S256x128.size inb_S256x640_S256x128_0_512) x6 x7
/-- The block of the second result. -/
def out2 (i : grid0.Coords) (h4 : k0_cond4 i = 1#1) (x1 x2 : Vec F S1x256 .i32) (g : Vec F S256x640 .f32)
    (a : Vec F S3x16384x256 .bf16) : FVec F S3x1024x256 .f32 :=
  k0_pay24 (k0_pay1 i x1 x2) (window a (k0_off4 i) S3x1024x256.size (k0_off4_inb i h4))
    (window g ![0, 512] S256x128.size inb_S256x640_S256x128_0_512)

/-! ## Loads and stores of whole buffers, at the sizes as the function spells them -/

section Whole

variable {κ : Kind} {sp : Space} {e : EltTy}

theorem rd1 (v : View sig κ sp S1x256 e) (f : v.ty.Contents (Elt F)) (h : ∀ a, (![0, 0] : Fin 2 → ℕ) a + (![1, 256] : Fin 2 → ℕ) a ≤ S1x256.size a) :
    v.readAt (Elt F) (Rect.unit (s := S1x256) ![0, 0] ![1, 256] h).toLoadRect f = v.read (Elt F) f := View.readAt_full v f h
theorem rd2 (v : View sig κ sp S256x256 e) (f : v.ty.Contents (Elt F)) (h : ∀ a, (![0, 0] : Fin 2 → ℕ) a + (![256, 256] : Fin 2 → ℕ) a ≤ S256x256.size a) :
    v.readAt (Elt F) (Rect.unit (s := S256x256) ![0, 0] ![256, 256] h).toLoadRect f = v.read (Elt F) f := View.readAt_full v f h
theorem rd3 (v : View sig κ sp S1024x256 e) (f : v.ty.Contents (Elt F)) (h : ∀ a, (![0, 0] : Fin 2 → ℕ) a + (![1024, 256] : Fin 2 → ℕ) a ≤ S1024x256.size a) :
    v.readAt (Elt F) (Rect.unit (s := S1024x256) ![0, 0] ![1024, 256] h).toLoadRect f = v.read (Elt F) f := View.readAt_full v f h
theorem rd4 (v : View sig κ sp S3x1024x256 e) (f : v.ty.Contents (Elt F)) (h : ∀ a, (![0, 0, 0] : Fin 3 → ℕ) a + (![3, 1024, 256] : Fin 3 → ℕ) a ≤ S3x1024x256.size a) :
    v.readAt (Elt F) (Rect.unit (s := S3x1024x256) ![0, 0, 0] ![3, 1024, 256] h).toLoadRect f = v.read (Elt F) f := View.readAt_full v f h
theorem rc2 [∀ e, Nonempty (Elt F e)] (v : View sig κ sp S256x256 e) (h h' : ∀ a, (![0, 0] : Fin 2 → ℕ) a + (![256, 256] : Fin 2 → ℕ) a ≤ S256x256.size a)
    (w : (Rect.unit (s := S256x256) ![0, 0] ![256, 256] h').shape.Idx → Elt F e) (L : List (View.Piece (Elt F) S256x256 e)) :
    v.readCov (⟨Rect.unit (s := S256x256) ![0, 0] ![256, 256] h', w⟩ :: L) (Rect.unit (s := S256x256) ![0, 0] ![256, 256] h).toLoadRect = w :=
  View.readCov_full v h h' w L
theorem rw2 (v : View sig κ sp S256x256 e) (f : v.ty.Contents (Elt F)) (h : ∀ a, (![0, 0] : Fin 2 → ℕ) a + (![256, 256] : Fin 2 → ℕ) a ≤ S256x256.size a)
    (w : (Rect.unit (s := S256x256) ![0, 0] ![256, 256] h).shape.Idx → Elt F e) (L : List (View.Piece (Elt F) S256x256 e)) :
    v.read (Elt F) (v.writes (Elt F) f (⟨Rect.unit (s := S256x256) ![0, 0] ![256, 256] h, w⟩ :: L)) = w := View.read_writes_full v f h w L
theorem rw3 (v : View sig κ sp S1024x256 e) (f : v.ty.Contents (Elt F)) (h : ∀ a, (![0, 0] : Fin 2 → ℕ) a + (![1024, 256] : Fin 2 → ℕ) a ≤ S1024x256.size a)
    (w : (Rect.unit (s := S1024x256) ![0, 0] ![1024, 256] h).shape.Idx → Elt F e) (L : List (View.Piece (Elt F) S1024x256 e)) :
    v.read (Elt F) (v.writes (Elt F) f (⟨Rect.unit (s := S1024x256) ![0, 0] ![1024, 256] h, w⟩ :: L)) = w := View.read_writes_full v f h w L
theorem rw4 (v : View sig κ sp S3x1024x256 e) (f : v.ty.Contents (Elt F)) (h : ∀ a, (![0, 0, 0] : Fin 3 → ℕ) a + (![3, 1024, 256] : Fin 3 → ℕ) a ≤ S3x1024x256.size a)
    (w : (Rect.unit (s := S3x1024x256) ![0, 0, 0] ![3, 1024, 256] h).shape.Idx → Elt F e) (L : List (View.Piece (Elt F) S3x1024x256 e)) :
    v.read (Elt F) (v.writes (Elt F) f (⟨Rect.unit (s := S3x1024x256) ![0, 0, 0] ![3, 1024, 256] h, w⟩ :: L)) = w := View.read_writes_full v f h w L

end Whole

/-! ## The runs -/

variable (c : Dev nD) (i : grid0.Coords)
    (arg1 : Memref sig .tc .vmem S1x256 .i32) (harg1 : arg1.IsWhole) (arg2 : Memref sig .tc .vmem S1x256 .i32) (harg2 : arg2.IsWhole)
    (arg3 : Memref sig .tc .vmem S1x256 .i32) (harg3 : arg3.IsWhole) (arg4 : Memref sig .tc .vmem S1024x256 .f32) (harg4 : arg4.IsWhole)
    (arg5 : Memref sig .tc .vmem S3x1024x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1024x256 .f32) (harg8 : arg8.IsWhole)
    (arg9 : Memref sig .tc .vmem S3x1024x256 .f32) (harg9 : arg9.IsWhole) (arg10 : Memref sig .tc .vmem S256x256 .f32) (harg10 : arg10.IsWhole)
    (arg11 : Memref sig .tc .vmem S256x256 .f32) (harg11 : arg11.IsWhole) (arg12 : Memref sig .tc .vmem S256x256 .f32) (harg12 : arg12.IsWhole)
    (arg13 : Memref sig .tc .vmem S256x640 .f32) (harg13 : arg13.IsWhole) (arg14 : Memref sig .tc .vmem S16384x256 .bf16) (harg14 : arg14.IsWhole)
    (arg15 : Memref sig .tc .vmem S3x16384x256 .bf16) (harg15 : arg15.IsWhole)
    (x1 x2 x3 : Vec F S1x256 .i32) (x4 : Vec F S1024x256 .f32) (x5 : Vec F S3x1024x256 .f32) (x6 x7 : Vec F S1x256 .f32)
    (a1 a2 a3 : Vec F S256x256 .f32) (g : Vec F S256x640 .f32) (k1 : Vec F S16384x256 .bf16) (k2 : Vec F S3x16384x256 .bf16)

/-- Points that accumulate: the inputs read and the scratch buffers written, at these contents. -/
abbrev accState (a1 a2 a3 : Vec F S256x256 .f32) (k1 : Vec F S16384x256 .bf16) (k2 : Vec F S3x16384x256 .bf16) : sProp 𝕄 :=
  iprop(owns (c : Thread nD τ) arg1 fullShare x1 ∗ owns (c : Thread nD τ) arg2 fullShare x2
    ∗ owns (c : Thread nD τ) arg4 fullShare x4 ∗ owns (c : Thread nD τ) arg5 fullShare x5
    ∗ owns (c : Thread nD τ) arg10 fullShare a1 ∗ owns (c : Thread nD τ) arg11 fullShare a2 ∗ owns (c : Thread nD τ) arg12 fullShare a3
    ∗ owns (c : Thread nD τ) arg14 fullShare k1 ∗ owns (c : Thread nD τ) arg15 fullShare k2)

set_option maxHeartbeats 1000000 in
/-- The point that clears the accumulators first: the sums become those of its own block. -/
theorem firstRun (c1 : isFirst i) (c2 : k0_cond2 i = 1#1) (c3 : ¬ isLast i) (c4 : ¬ k0_cond4 i = 1#1) (K : PUnit → sProp 𝕄) :
    iprop(accState c arg1 arg2 arg4 arg5 arg10 arg11 arg12 arg14 arg15 x1 x2 x4 x5 a1 a2 a3 k1 k2
        ∗ (iprop(accState c arg1 arg2 arg4 arg5 arg10 arg11 arg12 arg14 arg15 x1 x2 x4 x5 (sums1 i x1 x2 x4 k0_pay2) (sums2 i x1 x2 x4 k0_pay3) (sums3 i x1 x2 x5 k0_pay4) (keep1 i x2 x4 k1) (keep2 i x5 k2)) -∗ K ⟨⟩))
      ⊢ wp frame (wpE (defs₀ (F := F)) Variants.none c none) Set.univ
          (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__fused_kernel_eq_skeleton]; unfold cc0__fused_kernel_skel
  simp only [k0_part1_eq_skeleton, k0_part2_eq_skeleton, k0_part3_eq_skeleton]
  unfold k0_part1_skel k0_part2_skel k0_part3_skel
  unfold accState owns
  iintro ⟨⟨⟨%f1, %e1, H1⟩, ⟨%f2, %e2, H2⟩, ⟨%f4, %e4, H4⟩, ⟨%f5, %e5, H5⟩, ⟨%f10, %e10, H10⟩, ⟨%f11, %e11, H11⟩, ⟨%f12, %e12, H12⟩, ⟨%f14, %e14, H14⟩, ⟨%f15, %e15, H15⟩⟩, Hk⟩
  subst_vars
  sl_exec (disch := first | sl_exact c1 | sl_exact c2 | sl_exact c3 | sl_exact c4)
  sl_step
  iapply Hk
  isplitl [H1]
  · iexists _; isplitr; swap; · iexact H1
    ipureintro; rfl
  isplitl [H2]
  · iexists _; isplitr; swap; · iexact H2
    ipureintro; rfl
  isplitl [H4]
  · iexists _; isplitr; swap; · iexact H4
    ipureintro; rfl
  isplitl [H5]
  · iexists _; isplitr; swap; · iexact H5
    ipureintro; rfl
  isplitl [H10]
  · iexists _; isplitr; swap; · iexact H10
    ipureintro; sl_unfold_run_names; simp only [rd1, rd2, rd3, rc2, rw2]; rfl
  isplitl [H11]
  · iexists _; isplitr; swap; · iexact H11
    ipureintro; sl_unfold_run_names; simp only [rd1, rd2, rd3, rc2, rw2]; rfl
  isplitl [H12]
  · iexists _; isplitr; swap; · iexact H12
    ipureintro; sl_unfold_run_names; simp only [rd1, rd2, rd4, rc2, rw2]; rfl
  isplitl [H14]
  · iexists _; isplitr; swap; · iexact H14
    ipureintro; sl_unfold_run_names; simp only [View.read_writes_cons_put _ _ _ _ _ rfl, View.writes_nil, rd3]; rfl
  iexists _; isplitr; swap; · iexact H15
  ipureintro; sl_unfold_run_names; simp only [View.read_writes_cons_put _ _ _ _ _ rfl, View.writes_nil, rd4]; rfl

set_option maxHeartbeats 1000000 in
/-- A point that only accumulates: its block is added to the sums and kept. -/
theorem midRun (c1 : ¬ isFirst i) (c2 : k0_cond2 i = 1#1) (c3 : ¬ isLast i) (c4 : ¬ k0_cond4 i = 1#1) (K : PUnit → sProp 𝕄) :
    iprop(accState c arg1 arg2 arg4 arg5 arg10 arg11 arg12 arg14 arg15 x1 x2 x4 x5 a1 a2 a3 k1 k2
        ∗ (iprop(accState c arg1 arg2 arg4 arg5 arg10 arg11 arg12 arg14 arg15 x1 x2 x4 x5 (sums1 i x1 x2 x4 a1) (sums2 i x1 x2 x4 a2) (sums3 i x1 x2 x5 a3) (keep1 i x2 x4 k1) (keep2 i x5 k2)) -∗ K ⟨⟩))
      ⊢ wp frame (wpE (defs₀ (F := F)) Variants.none c none) Set.univ
          (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__fused_kernel_eq_skeleton]; unfold cc0__fused_kernel_skel
  simp only [k0_part1_eq_skeleton, k0_part2_eq_skeleton, k0_part3_eq_skeleton]
  unfold k0_part1_skel k0_part2_skel k0_part3_skel
  unfold accState owns
  iintro ⟨⟨⟨%f1, %e1, H1⟩, ⟨%f2, %e2, H2⟩, ⟨%f4, %e4, H4⟩, ⟨%f5, %e5, H5⟩, ⟨%f10, %e10, H10⟩, ⟨%f11, %e11, H11⟩, ⟨%f12, %e12, H12⟩, ⟨%f14, %e14, H14⟩, ⟨%f15, %e15, H15⟩⟩, Hk⟩
  subst_vars
  sl_exec (disch := first | sl_exact c1 | sl_exact c2 | sl_exact c3 | sl_exact c4)
  sl_step
  iapply Hk
  isplitl [H1]
  · iexists _; isplitr; swap; · iexact H1
    ipureintro; rfl
  isplitl [H2]
  · iexists _; isplitr; swap; · iexact H2
    ipureintro; rfl
  isplitl [H4]
  · iexists _; isplitr; swap; · iexact H4
    ipureintro; rfl
  isplitl [H5]
  · iexists _; isplitr; swap; · iexact H5
    ipureintro; rfl
  isplitl [H10]
  · iexists _; isplitr; swap; · iexact H10
    ipureintro; sl_unfold_run_names; simp only [rd1, rd2, rd3, rc2, rw2]; rfl
  isplitl [H11]
  · iexists _; isplitr; swap; · iexact H11
    ipureintro; sl_unfold_run_names; simp only [rd1, rd2, rd3, rc2, rw2]; rfl
  isplitl [H12]
  · iexists _; isplitr; swap; · iexact H12
    ipureintro; sl_unfold_run_names; simp only [rd1, rd2, rd4, rc2, rw2]; rfl
  isplitl [H14]
  · iexists _; isplitr; swap; · iexact H14
    ipureintro; sl_unfold_run_names; simp only [View.read_writes_cons_put _ _ _ _ _ rfl, View.writes_nil, rd3]; rfl
  iexists _; isplitr; swap; · iexact H15
  ipureintro; sl_unfold_run_names; simp only [View.read_writes_cons_put _ _ _ _ _ rfl, View.writes_nil, rd4]; rfl

set_option maxHeartbeats 1000000 in
/-- The last accumulating point: its block is added to the sums and kept, and the table is made of the sums. -/
theorem lastRun (c1 : ¬ isFirst i) (c2 : k0_cond2 i = 1#1) (c3 : isLast i) (c4 : ¬ k0_cond4 i = 1#1) (K : PUnit → sProp 𝕄) :
    iprop(accState c arg1 arg2 arg4 arg5 arg10 arg11 arg12 arg14 arg15 x1 x2 x4 x5 a1 a2 a3 k1 k2 ∗ owns (c : Thread nD τ) arg3 fullShare x3 ∗ owns (c : Thread nD τ) arg13 fullShare g
        ∗ (iprop(accState c arg1 arg2 arg4 arg5 arg10 arg11 arg12 arg14 arg15 x1 x2 x4 x5 (sums1 i x1 x2 x4 a1) (sums2 i x1 x2 x4 a2) (sums3 i x1 x2 x5 a3) (keep1 i x2 x4 k1) (keep2 i x5 k2) ∗ owns (c : Thread nD τ) arg3 fullShare x3 ∗ owns (c : Thread nD τ) arg13 fullShare (table x3 (sums1 i x1 x2 x4 a1) (sums2 i x1 x2 x4 a2) (sums3 i x1 x2 x5 a3) g)) -∗ K ⟨⟩))
      ⊢ wp frame (wpE (defs₀ (F := F)) Variants.none c none) Set.univ
          (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__fused_kernel_eq_skeleton]; unfold cc0__fused_kernel_skel
  simp only [k0_part1_eq_skeleton, k0_part2_eq_skeleton, k0_part3_eq_skeleton]
  unfold k0_part1_skel k0_part2_skel k0_part3_skel
  unfold accState owns
  iintro ⟨⟨⟨%f1, %e1, H1⟩, ⟨%f2, %e2, H2⟩, ⟨%f4, %e4, H4⟩, ⟨%f5, %e5, H5⟩, ⟨%f10, %e10, H10⟩, ⟨%f11, %e11, H11⟩, ⟨%f12, %e12, H12⟩, ⟨%f14, %e14, H14⟩, ⟨%f15, %e15, H15⟩⟩, ⟨%f3, %e3, H3⟩, ⟨%f13, %e13, H13⟩, Hk⟩
  subst_vars
  sl_exec (disch := first | sl_exact c1 | sl_exact c2 | sl_exact c3 | sl_exact c4)
  sl_step
  iapply Hk
  isplitl [H1 H2 H4 H5 H10 H11 H12 H14 H15]
  · isplitl [H1]
    · iexists _; isplitr; swap; · iexact H1
      ipureintro; rfl
    isplitl [H2]
    · iexists _; isplitr; swap; · iexact H2
      ipureintro; rfl
    isplitl [H4]
    · iexists _; isplitr; swap; · iexact H4
      ipureintro; rfl
    isplitl [H5]
    · iexists _; isplitr; swap; · iexact H5
      ipureintro; rfl
    isplitl [H10]
    · iexists _; isplitr; swap; · iexact H10
      ipureintro; sl_unfold_run_names; simp only [rd1, rd2, rd3, rc2, rw2]; rfl
    isplitl [H11]
    · iexists _; isplitr; swap; · iexact H11
      ipureintro; sl_unfold_run_names; simp only [rd1, rd2, rd3, rc2, rw2]; rfl
    isplitl [H12]
    · iexists _; isplitr; swap; · iexact H12
      ipureintro; sl_unfold_run_names; simp only [rd1, rd2, rd4, rc2, rw2]; rfl
    isplitl [H14]
    · iexists _; isplitr; swap; · iexact H14
      ipureintro; sl_unfold_run_names; simp only [View.read_writes_cons_put _ _ _ _ _ rfl, View.writes_nil, rd3]; rfl
    iexists _; isplitr; swap; · iexact H15
    ipureintro; sl_unfold_run_names; simp only [View.read_writes_cons_put _ _ _ _ _ rfl, View.writes_nil, rd4]; rfl
  isplitl [H3]
  · iexists _; isplitr; swap; · iexact H3
    ipureintro; rfl
  iexists _; isplitr; swap; · iexact H13
  ipureintro; sl_unfold_run_names; simp only [View.read_writes_cons_put _ _ _ _ _ rfl, View.writes_nil, rd1, rd2, rd3, rd4, rc2, rw2]; rfl

set_option maxHeartbeats 1000000 in
/-- A point that normalises: its two output blocks are written, everything else is left as it was. -/
theorem applyRun (c1 : ¬ isFirst i) (c2 : ¬ k0_cond2 i = 1#1) (c3 : ¬ isLast i) (c4 : k0_cond4 i = 1#1) (K : PUnit → sProp 𝕄) :
    iprop(owns (c : Thread nD τ) arg1 fullShare x1 ∗ owns (c : Thread nD τ) arg2 fullShare x2 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ owns (c : Thread nD τ) arg13 fullShare g ∗ owns (c : Thread nD τ) arg14 fullShare k1 ∗ owns (c : Thread nD τ) arg15 fullShare k2
        ∗ (iprop(owns (c : Thread nD τ) arg1 fullShare x1 ∗ owns (c : Thread nD τ) arg2 fullShare x2 ∗ owns (c : Thread nD τ) arg6 fullShare x6 ∗ owns (c : Thread nD τ) arg7 fullShare x7 ∗ owns (c : Thread nD τ) arg8 fullShare (out1 i c4 x1 x2 x6 x7 g k1) ∗ owns (c : Thread nD τ) arg9 fullShare (out2 i c4 x1 x2 g k2) ∗ owns (c : Thread nD τ) arg13 fullShare g ∗ owns (c : Thread nD τ) arg14 fullShare k1 ∗ owns (c : Thread nD τ) arg15 fullShare k2) -∗ K ⟨⟩))
      ⊢ wp frame (wpE (defs₀ (F := F)) Variants.none c none) Set.univ
          (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__fused_kernel_eq_skeleton]; unfold cc0__fused_kernel_skel
  simp only [k0_part1_eq_skeleton, k0_part2_eq_skeleton, k0_part3_eq_skeleton]
  unfold k0_part1_skel k0_part2_skel k0_part3_skel
  unfold owns
  iintro ⟨⟨%f1, %e1, H1⟩, ⟨%f2, %e2, H2⟩, ⟨%f6, %e6, H6⟩, ⟨%f7, %e7, H7⟩, ⟨%d8, %f8, -, H8⟩, ⟨%d9, %f9, -, H9⟩, ⟨%f13, %e13, H13⟩, ⟨%f14, %e14, H14⟩, ⟨%f15, %e15, H15⟩, Hk⟩
  subst_vars
  sl_exec (disch := first | sl_exact c1 | sl_exact c2 | sl_exact c3 | sl_exact c4)
  sl_step
  iapply Hk
  isplitl [H1]
  · iexists _; isplitr; swap; · iexact H1
    ipureintro; rfl
  isplitl [H2]
  · iexists _; isplitr; swap; · iexact H2
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; sl_unfold_run_names; simp only [rd1, rw3]; rfl
  isplitl [H9]
  · iexists _; isplitr; swap; · iexact H9
    ipureintro; sl_unfold_run_names; simp only [rd1, rw4]; rfl
  isplitl [H13]
  · iexists _; isplitr; swap; · iexact H13
    ipureintro; rfl
  isplitl [H14]
  · iexists _; isplitr; swap; · iexact H14
    ipureintro; rfl
  iexists _; isplitr; swap; · iexact H15
  ipureintro; rfl

end Cert.KernelIdeal.Body
-- ==== Proof.KernelIdealRun.lean ====
/-
  The whole program run, naming nothing of what it computes: from any launch contents every fair execution ends, nothing faults,
  every argument array is unchanged and every semaphore counter is zero.  The two output windows and the six scratch buffers are
  carried at unnamed contents; the body's runs are those of the body module.
-/
module

public import proofs.«01_k».proof.Proof.KernelIdealBody

@[expose] public section

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

/-! ## Which points do what -/

theorem isFirst_iff : ∀ t : Fin grid0.N, isFirst (grid0.coords t) ↔ t.val = 0 := by decide +kernel
theorem isLast_iff : ∀ t : Fin grid0.N, isLast (grid0.coords t) ↔ t.val = 15 := by decide +kernel
theorem cond2_iff : ∀ t : Fin grid0.N, k0_cond2 (grid0.coords t) = 1#1 ↔ t.val < 16 := by decide +kernel
theorem cond4_iff : ∀ t : Fin grid0.N, k0_cond4 (grid0.coords t) = 1#1 ↔ 16 ≤ t.val := by decide +kernel

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The two output windows, whose contents this run does not name. -/
def fgt : Fin cfg0.W → Bool := fun w => w.val == 7 || w.val == 8

/-- The proof data: every input window keeps its block, the outputs and the scratch are at unnamed contents. -/
def dats (m : (ℓ : Loc nD τ sig) → Buf (Elt F) ℓ) (_ : Fin 1) (c : Dev nD) : Dat τ (Elt F) Unit ℕ (UR sig nD τ) ℕ cfg0 c where
  A := fun w => V m c (Pipeline.arrRef spec0 w)
  after := fun w t => match w with
    | ⟨0, _⟩ => iblk m c 0 t
    | ⟨1, _⟩ => iblk m c 1 t
    | ⟨2, _⟩ => iblk m c 2 t
    | ⟨3, _⟩ => (cfg0.win 3).fill (cfg0.grid.coords t) (fun _ => Classical.choice inferInstance) (iblk m c 3 t)
    | ⟨4, _⟩ => (cfg0.win 4).fill (cfg0.grid.coords t) (fun _ => Classical.choice inferInstance) (iblk m c 4 t)
    | ⟨5, _⟩ => iblk m c 5 t
    | ⟨6, _⟩ => iblk m c 6 t
    | ⟨7, _⟩ => fun _ => Classical.choice inferInstance
    | ⟨8, _⟩ => fun _ => Classical.choice inferInstance
  Φ := fun _ => Pipeline.ΦA spec0 c
  q := fun _ => fullShare
  owed := fun _ => 0

theorem before_3 (c : Dev nD) (t) (d) : (dats m 0 c).before 3 t d = (cfg0.win 3).fill (cfg0.grid.coords t) d (iblk m c 3 t) :=
  (dats m 0 c).before_in_eq_fetched 3 rfl (fun _ => rfl)
    (by decide +kernel)
    (fun t => (cfg0.win 3).cut_fill _ _ _) t d
theorem before_4 (c : Dev nD) (t) (d) : (dats m 0 c).before 4 t d = (cfg0.win 4).fill (cfg0.grid.coords t) d (iblk m c 4 t) :=
  (dats m 0 c).before_in_eq_fetched 4 rfl (fun _ => rfl)
    (by decide +kernel)
    (fun t => (cfg0.win 4).cut_fill _ _ _) t d

/-- The six scratch buffers at unnamed contents, and the generator register. -/
theorem scratch_eq (c : Dev nD) :
    (Pipeline.ΦA spec0 c : sProp 𝕄) = iprop(((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f) ∗ (∃ f, owns (c : Thread nD τ) (Memref.whole cc0_scratch4) fullShare f) ∗ (∃ f, owns (c : Thread nD τ) (Memref.whole cc0_scratch5) fullShare f)) ∗ ∃ r, prngReg c r) := by
  unfold Pipeline.ΦA
  rw [scopedRest0_eq]
  simp only [owns_whole]

set_option maxHeartbeats 2000000 in
/-- One grid point: from the windows' blocks and the scratch at any contents, the body runs and hands all of them back. -/
theorem sound (c : Dev nD) (t : Fin cfg0.N) :
    iprop(Pipeline.ΦA spec0 c ∗ (dats m 0 c).owesAt () t.castSucc ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ d, owns (c : Thread nD τ) ((cfg0.win 2).stage (cfg0.slots t 2)) fullShare ((dats m 0 c).before 2 t d)) ∗ (∃ d, owns (c : Thread nD τ) ((cfg0.win 3).stage (cfg0.slots t 3)) fullShare ((dats m 0 c).before 3 t d)) ∗ (∃ d, owns (c : Thread nD τ) ((cfg0.win 4).stage (cfg0.slots t 4)) fullShare ((dats m 0 c).before 4 t d)) ∗ (∃ d, owns (c : Thread nD τ) ((cfg0.win 5).stage (cfg0.slots t 5)) fullShare ((dats m 0 c).before 5 t d)) ∗ (∃ d, owns (c : Thread nD τ) ((cfg0.win 6).stage (cfg0.slots t 6)) fullShare ((dats m 0 c).before 6 t d)) ∗ (∃ X, owns (c : Thread nD τ) ((cfg0.win 7).stage (cfg0.slots t 7)) fullShare (X)) ∗ (∃ X, owns (c : Thread nD τ) ((cfg0.win 8).stage (cfg0.slots t 8)) fullShare (X)))
      ⊢ wp frame (wpE (defs₀ (F := F)) Variants.none c none) Set.univ (bodyAt0 t) fun _ =>
          iprop(Pipeline.ΦA spec0 c ∗ (dats m 0 c).owesAt () t.succ ∗ owns (c : Thread nD τ) ((cfg0.win 0).stage (cfg0.slots t 0)) fullShare ((dats m 0 c).after 0 t) ∗ owns (c : Thread nD τ) ((cfg0.win 1).stage (cfg0.slots t 1)) fullShare ((dats m 0 c).after 1 t) ∗ owns (c : Thread nD τ) ((cfg0.win 2).stage (cfg0.slots t 2)) fullShare ((dats m 0 c).after 2 t) ∗ (∃ d, owns (c : Thread nD τ) ((cfg0.win 3).stage (cfg0.slots t 3)) fullShare ((cfg0.win 3).fill (cfg0.grid.coords t) d ((cfg0.win 3).cut (cfg0.grid.coords t) ((dats m 0 c).after 3 t)))) ∗ (∃ d, owns (c : Thread nD τ) ((cfg0.win 4).stage (cfg0.slots t 4)) fullShare ((cfg0.win 4).fill (cfg0.grid.coords t) d ((cfg0.win 4).cut (cfg0.grid.coords t) ((dats m 0 c).after 4 t)))) ∗ owns (c : Thread nD τ) ((cfg0.win 5).stage (cfg0.slots t 5)) fullShare ((dats m 0 c).after 5 t) ∗ owns (c : Thread nD τ) ((cfg0.win 6).stage (cfg0.slots t 6)) fullShare ((dats m 0 c).after 6 t) ∗ (∃ X, owns (c : Thread nD τ) ((cfg0.win 7).stage (cfg0.slots t 7)) fullShare (X)) ∗ (∃ X, owns (c : Thread nD τ) ((cfg0.win 8).stage (cfg0.slots t 8)) fullShare (X))) := by
  rw [scratch_eq, show (dats m 0 c).owesAt () t.succ = (dats m 0 c).owesAt () t.castSucc from rfl]
  iintro ⟨⟨⟨⟨%a1, A1⟩, ⟨%a2, A2⟩, ⟨%a3, A3⟩, ⟨%g, G⟩, ⟨%k1, K1⟩, ⟨%k2, K2⟩⟩, R⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0_of m (dats m 0 c) rfl (fun _ => rfl), before0_1_of m (dats m 0 c) rfl (fun _ => rfl), before0_2_of m (dats m 0 c) rfl (fun _ => rfl),
    before_3, before_4, before0_5_of m (dats m 0 c) rfl (fun _ => rfl), before0_6_of m (dats m 0 c) rfl (fun _ => rfl)]
  unfold bodyAt0
  by_cases h16 : t.val < 16
  · have c2 := (cond2_iff t).mpr h16
    have c4 : ¬ k0_cond4 (grid0.coords t) = 1#1 := fun h => absurd ((cond4_iff t).mp h) (by omega)
    by_cases h0 : t.val = 0
    · have c1 := (isFirst_iff t).mpr h0
      have c3 : ¬ isLast (grid0.coords t) := fun h => absurd ((isLast_iff t).mp h) (by omega)
      iapply (firstRun c _ _ _ _ _ _ _ _ _ _ _ _ _ _ _ _ _ _ _ _ _ _ _ _ _ _ _ _ _ _ _ (iblk m c 0 t) (iblk m c 1 t) ((cfg0.win 3).fill (cfg0.grid.coords t) d3 (iblk m c 3 t)) ((cfg0.win 4).fill (cfg0.grid.coords t) d4 (iblk m c 4 t)) a1 a2 a3 k1 k2 c1 c2 c3 c4 _)
      isplitl [H0 H1 H3 H4 A1 A2 A3 K1 K2]
      · unfold accState
        iframe
      unfold accState
      iintro ⟨H0, H1, H3, H4, A1, A2, A3, K1, K2⟩
      isplitl [A1 A2 A3 G K1 K2 R]
      · isplitl [A1 A2 A3 G K1 K2]
        · isplitl [A1]; · iexists _; iexact A1
          isplitl [A2]; · iexists _; iexact A2
          isplitl [A3]; · iexists _; iexact A3
          isplitl [G]; · iexists _; iexact G
          isplitl [K1]; · iexists _; iexact K1
          iexists _; iexact K2
        iexact R
      isplitl [Ho]; · iexact Ho
      isplitl [H0]; · iexact H0
      isplitl [H1]; · iexact H1
      isplitl [H2]; · iexact H2
      isplitl [H3]; · iexists d3; change _ ⊢ owns _ _ _ ((cfg0.win 3).fill (cfg0.grid.coords t) d3 ((cfg0.win 3).cut (cfg0.grid.coords t) ((cfg0.win 3).fill (cfg0.grid.coords t) _ (iblk m c 3 t)))); rw [(cfg0.win 3).cut_fill]
      isplitl [H4]; · iexists d4; change _ ⊢ owns _ _ _ ((cfg0.win 4).fill (cfg0.grid.coords t) d4 ((cfg0.win 4).cut (cfg0.grid.coords t) ((cfg0.win 4).fill (cfg0.grid.coords t) _ (iblk m c 4 t)))); rw [(cfg0.win 4).cut_fill]
      isplitl [H5]; · iexact H5
      isplitl [H6]; · iexact H6
      isplitl [H7]; · iexists _; iexact H7
      iexists _; iexact H8
    have c1 : ¬ isFirst (grid0.coords t) := fun h => absurd ((isFirst_iff t).mp h) h0
    by_cases h15 : t.val = 15
    · have c3 := (isLast_iff t).mpr h15
      iapply (lastRun c _ _ _ _ _ _ _ _ _ _ _ _ _ _ _ _ _ _ _ _ _ _ _ _ _ _ _ _ _ _ _ (iblk m c 0 t) (iblk m c 1 t) (iblk m c 2 t) ((cfg0.win 3).fill (cfg0.grid.coords t) d3 (iblk m c 3 t)) ((cfg0.win 4).fill (cfg0.grid.coords t) d4 (iblk m c 4 t)) a1 a2 a3 g k1 k2 c1 c2 c3 c4 _)
      isplitl [H0 H1 H3 H4 A1 A2 A3 K1 K2]
      · unfold accState
        iframe
      isplitl [H2]; · iexact H2
      isplitl [G]; · iexact G
      unfold accState
      iintro ⟨⟨H0, H1, H3, H4, A1, A2, A3, K1, K2⟩, H2, G⟩
      isplitl [A1 A2 A3 G K1 K2 R]
      · isplitl [A1 A2 A3 G K1 K2]
        · isplitl [A1]; · iexists _; iexact A1
          isplitl [A2]; · iexists _; iexact A2
          isplitl [A3]; · iexists _; iexact A3
          isplitl [G]; · iexists _; iexact G
          isplitl [K1]; · iexists _; iexact K1
          iexists _; iexact K2
        iexact R
      isplitl [Ho]; · iexact Ho
      isplitl [H0]; · iexact H0
      isplitl [H1]; · iexact H1
      isplitl [H2]; · iexact H2
      isplitl [H3]; · iexists d3; change _ ⊢ owns _ _ _ ((cfg0.win 3).fill (cfg0.grid.coords t) d3 ((cfg0.win 3).cut (cfg0.grid.coords t) ((cfg0.win 3).fill (cfg0.grid.coords t) _ (iblk m c 3 t)))); rw [(cfg0.win 3).cut_fill]
      isplitl [H4]; · iexists d4; change _ ⊢ owns _ _ _ ((cfg0.win 4).fill (cfg0.grid.coords t) d4 ((cfg0.win 4).cut (cfg0.grid.coords t) ((cfg0.win 4).fill (cfg0.grid.coords t) _ (iblk m c 4 t)))); rw [(cfg0.win 4).cut_fill]
      isplitl [H5]; · iexact H5
      isplitl [H6]; · iexact H6
      isplitl [H7]; · iexists _; iexact H7
      iexists _; iexact H8
    have c3 : ¬ isLast (grid0.coords t) := fun h => absurd ((isLast_iff t).mp h) h15
    iapply (midRun c _ _ _ _ _ _ _ _ _ _ _ _ _ _ _ _ _ _ _ _ _ _ _ _ _ _ _ _ _ _ _ (iblk m c 0 t) (iblk m c 1 t) ((cfg0.win 3).fill (cfg0.grid.coords t) d3 (iblk m c 3 t)) ((cfg0.win 4).fill (cfg0.grid.coords t) d4 (iblk m c 4 t)) a1 a2 a3 k1 k2 c1 c2 c3 c4 _)
    isplitl [H0 H1 H3 H4 A1 A2 A3 K1 K2]
    · unfold accState
      iframe
    unfold accState
    iintro ⟨H0, H1, H3, H4, A1, A2, A3, K1, K2⟩
    isplitl [A1 A2 A3 G K1 K2 R]
    · isplitl [A1 A2 A3 G K1 K2]
      · isplitl [A1]; · iexists _; iexact A1
        isplitl [A2]; · iexists _; iexact A2
        isplitl [A3]; · iexists _; iexact A3
        isplitl [G]; · iexists _; iexact G
        isplitl [K1]; · iexists _; iexact K1
        iexists _; iexact K2
      iexact R
    isplitl [Ho]; · iexact Ho
    isplitl [H0]; · iexact H0
    isplitl [H1]; · iexact H1
    isplitl [H2]; · iexact H2
    isplitl [H3]; · iexists d3; change _ ⊢ owns _ _ _ ((cfg0.win 3).fill (cfg0.grid.coords t) d3 ((cfg0.win 3).cut (cfg0.grid.coords t) ((cfg0.win 3).fill (cfg0.grid.coords t) _ (iblk m c 3 t)))); rw [(cfg0.win 3).cut_fill]
    isplitl [H4]; · iexists d4; change _ ⊢ owns _ _ _ ((cfg0.win 4).fill (cfg0.grid.coords t) d4 ((cfg0.win 4).cut (cfg0.grid.coords t) ((cfg0.win 4).fill (cfg0.grid.coords t) _ (iblk m c 4 t)))); rw [(cfg0.win 4).cut_fill]
    isplitl [H5]; · iexact H5
    isplitl [H6]; · iexact H6
    isplitl [H7]; · iexists _; iexact H7
    iexists _; iexact H8
  have c1 : ¬ isFirst (grid0.coords t) := fun h => absurd ((isFirst_iff t).mp h) (by omega)
  have c2 : ¬ k0_cond2 (grid0.coords t) = 1#1 := fun h => absurd ((cond2_iff t).mp h) h16
  have c3 : ¬ isLast (grid0.coords t) := fun h => absurd ((isLast_iff t).mp h) (by omega)
  have c4 := (cond4_iff t).mpr (by omega)
  iapply (applyRun c _ _ _ _ _ _ _ _ _ _ _ _ _ _ _ _ _ _ _ _ _ _ _ _ _ _ _ _ _ _ _ (iblk m c 0 t) (iblk m c 1 t) (iblk m c 5 t) (iblk m c 6 t) g k1 k2 c1 c2 c3 c4 _)
  isplitl [H0]; · iexact H0
  isplitl [H1]; · iexact H1
  isplitl [H5]; · iexact H5
  isplitl [H6]; · iexact H6
  isplitl [H7]; · iexists _; iexact H7
  isplitl [H8]; · iexists _; iexact H8
  isplitl [G]; · iexact G
  isplitl [K1]; · iexact K1
  isplitl [K2]; · iexact K2
  iintro ⟨H0, H1, H5, H6, H7, H8, G, K1, K2⟩
  isplitl [A1 A2 A3 G K1 K2 R]
  · isplitl [A1 A2 A3 G K1 K2]
    · isplitl [A1]; · iexists _; iexact A1
      isplitl [A2]; · iexists _; iexact A2
      isplitl [A3]; · iexists _; iexact A3
      isplitl [G]; · iexists _; iexact G
      isplitl [K1]; · iexists _; iexact K1
      iexists _; iexact K2
    iexact R
  isplitl [Ho]; · iexact Ho
  isplitl [H0]; · iexact H0
  isplitl [H1]; · iexact H1
  isplitl [H2]; · iexact H2
  isplitl [H3]; · iexists d3; change _ ⊢ owns _ _ _ ((cfg0.win 3).fill (cfg0.grid.coords t) d3 ((cfg0.win 3).cut (cfg0.grid.coords t) ((cfg0.win 3).fill (cfg0.grid.coords t) _ (iblk m c 3 t)))); rw [(cfg0.win 3).cut_fill]
  isplitl [H4]; · iexists d4; change _ ⊢ owns _ _ _ ((cfg0.win 4).fill (cfg0.grid.coords t) d4 ((cfg0.win 4).cut (cfg0.grid.coords t) ((cfg0.win 4).fill (cfg0.grid.coords t) _ (iblk m c 4 t)))); rw [(cfg0.win 4).cut_fill]
  isplitl [H5]; · iexact H5
  isplitl [H6]; · iexact H6
  isplitl [H7]; · iexists _; iexact H7
  iexists _; iexact H8

/-- The body's obligation at every grid point: the body's row of the program's table is the kernel function at the point's windows,
    and running it hands every window and the scratch back. -/
theorem body_obligation (c : Dev nD) : BodyObligationLoose (dats m 0 c) (defs₀ (F := F)) Variants.none () Set.univ fgt := fun t => by
  have hrow : (defs₀ (F := F)) .tc cfg0.body (cfg0.bodyArgs t (cfg0.slots t)) = bodyAt0 t := by
    unfold defs₀
    rw [Defs.onTc_tc]
  rw [bigSep_W0, bigSep_W0, hrow]
  exact sound m c t

set_option backward.isDefEq.respectTransparency.types false in
/-- The run of @main: every array is at its launch contents but the outputs and the last line's result; every counter is zero. -/
theorem run_main : θ_run defs (onTc (τ := τ) (main (F := F))) (s₀ m ρ)
    (fun r => Pipeline.RDat.FramePostR cfg0 (fun c => (dats m 0 c).toRForget fgt) {main_v12} (V m) r ∧ r.2.sem = fun _ => 0) :=
  Pipeline.θ_run_frame_around_T_forget cfgs (dats m) 0 launch0 defs₀ Variants.none fgt {main_v12} m ρ main
    (fun c => body_obligation m c) (fun c => (dats m 0 c).share_full fun _ => rfl) (fun _ _ => rfl) (V0 m) [hostOps1]
    sfx_sub sfx_fresh sfx_keeps
    (by
      intro ops hops op hop b hb
      simp only [List.mem_cons, List.mem_nil_iff, or_false] at hops
      subst hops
      simp only [hostOps1, List.mem_cons, List.mem_nil_iff, or_false] at hop
      subst hop
      simp only [StableHlo.unary_writes, Finset.mem_singleton] at hb
      exact Finset.mem_singleton.mpr (Proc.devRef_injective _ hb))
    (hmain m Variants.none) (fun _ _ => rfl) (fun _ _ => rfl) _ (fun _ h => h)

/-- The frame: every argument array ends as launched, and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c =>
      ⟨(h.1.arr_in c 3 rfl).trans (V_main_arg0 m c),
       ((h.1 c).2 main_arg1 (Finset.mem_sdiff.mpr ⟨Pipeline.mem_restRefs_of main_arg1 (by decide) (by decide), by decide⟩)).trans (V_main_arg1 m c),
       ((h.1 c).2 main_arg2 (Finset.mem_sdiff.mpr ⟨Pipeline.mem_restRefs_of main_arg2 (by decide) (by decide), by decide⟩)).trans (V_main_arg2 m c),
       ((h.1 c).2 main_arg3 (Finset.mem_sdiff.mpr ⟨Pipeline.mem_restRefs_of main_arg3 (by decide) (by decide), by decide⟩)).trans (V_main_arg3 m c),
       ((h.1 c).2 main_arg4 (Finset.mem_sdiff.mpr ⟨Pipeline.mem_restRefs_of main_arg4 (by decide) (by decide), by decide⟩)).trans (V_main_arg4 m c)⟩, h.2⟩)
    (run_main m ρ)

end Cert.KernelIdeal.Run

end
-- ==== Proof.Segments.lean ====
/- The segments that a vector of lengths cuts the rows into, and how the host operations that cut them
   (a running sum, a scatter of ones, a scatter-add of rows) read at an index. -/
module

public import Idealize.ShloMosaic.Lib.Routing.OpsOne
public import Idealize.ShloMosaic.Lib.Routing.OpsSet
public import Idealize.ShloMosaic.Lib.Routing.Count
public import Idealize.ShloMosaic.Lib.IdealHost

@[expose] public section

noncomputable section

namespace Cert.Segments

open Idealize.ShloMosaic Idealize.ShloMosaic.Routing Idealize.ShloMosaic.ValueIdx Finset

/-! ## Segments of the natural numbers -/

/-- The first row of segment `g`, where segment `i` has `n i` rows. -/
def first (n : ℕ → ℕ) (g : ℕ) : ℕ := ∑ i ∈ range g, n i

/-- The segment (of 181) that row `r` lies in. -/
def seg (n : ℕ → ℕ) (r : ℕ) : ℕ := Nat.count (fun g => first n g ≤ r) 181 - 1

theorem first_zero (n : ℕ → ℕ) : first n 0 = 0 := rfl

theorem first_succ (n : ℕ → ℕ) (g : ℕ) : first n (g + 1) = first n g + n g := sum_range_succ _ _

theorem first_mono (n : ℕ → ℕ) {a b : ℕ} (h : a ≤ b) : first n a ≤ first n b := by
  induction h with
  | refl => exact le_rfl
  | step _ ih => rw [Nat.succ_eq_add_one, first_succ]; omega

/-- A list's running sum is `first`. -/
theorem list_sum_range (n : ℕ → ℕ) (g : ℕ) : ((List.range g).map n).sum = first n g := by
  induction g with
  | zero => rfl
  | succ g ih => rw [List.range_succ, List.map_append, List.sum_append, ih, first_succ]; simp

/-- The number of segments beginning at or before row `r` tells which they are. -/
theorem lt_count (n : ℕ → ℕ) (r : ℕ) {g : ℕ} (hg : g < 181) :
    first n g ≤ r ↔ g < Nat.count (fun g => first n g ≤ r) 181 :=
  lt_count_iff (Q := fun g => first n g ≤ r) (fun _ _ h _ hb => (first_mono n h).trans hb) hg

theorem count_pos (n : ℕ → ℕ) (r : ℕ) : 0 < Nat.count (fun g => first n g ≤ r) 181 :=
  (lt_count n r (by decide)).1 (Nat.zero_le _)

theorem count_le (n : ℕ → ℕ) (r : ℕ) : Nat.count (fun g => first n g ≤ r) 181 ≤ 181 := Nat.count_le _

theorem seg_lt (n : ℕ → ℕ) (r : ℕ) : seg n r < 181 := by
  have := count_pos n r
  have := count_le n r
  unfold seg
  omega

/-- A row before the last one of all lies in segment `g` exactly when `g`'s first row is at or before it and the next segment's is after it. -/
theorem seg_eq_iff (n : ℕ → ℕ) {r g : ℕ} (hr : r < first n 181) (hg : g < 181) :
    seg n r = g ↔ first n g ≤ r ∧ r < first n (g + 1) := by
  have hp := count_pos n r
  have hl := count_le n r
  have h1 := lt_count n r hg
  unfold seg
  rcases Nat.lt_or_ge (g + 1) 181 with h | h
  · have h2 := lt_count n r h
    omega
  · obtain rfl : g = 180 := by omega
    change r < first n (180 + 1) at hr
    omega

/-- A row lies in its own segment. -/
theorem seg_spec (n : ℕ → ℕ) {r : ℕ} (hr : r < first n 181) : first n (seg n r) ≤ r ∧ r < first n (seg n r + 1) :=
  (seg_eq_iff n hr (seg_lt n r)).1 rfl

/-- Segment `g` has `n g` rows. -/
theorem card_seg (n : ℕ → ℕ) {N g : ℕ} (hN : first n 181 = N) (hg : g < 181) :
    ((range N).filter fun r => seg n r = g).card = n g := by
  have e : (range N).filter (fun r => seg n r = g) = Ico (first n g) (first n (g + 1)) := by
    ext r
    simp only [mem_filter, mem_range, mem_Ico]
    constructor
    · rintro ⟨hr, hs⟩
      exact (seg_eq_iff n (hN ▸ hr) hg).1 hs
    · rintro ⟨h1, h2⟩
      have hr : r < first n 181 := h2.trans_le (first_mono n hg)
      exact ⟨hN ▸ hr, (seg_eq_iff n hr hg).2 ⟨h1, h2⟩⟩
  rw [e, Nat.card_Ico, first_succ]
  omega

/-! ## Scatters read at an index -/

/-- Update `i` of a scatter of `M` scalars into a vector, one index each, lands at `x` exactly when its index word, read signed, is `x`. -/
theorem lands_vec {N M : ℕ} (d : ScatterDims (shape1 N) (shape2 M 1) (shape1 M)) (hiw : d.insertedWindowDims = [0])
    (hsd : d.scatterDimsToOperandDims = [0]) (hivd : d.indexVectorDim = 1) (idx : IVec (shape2 M 1) 32) (i : Fin M) (x : Fin N) :
    d.resultIdx? (ix1 i) idx = some (ix1 x) ↔ (idx (ix2 i (0 : Fin 1))).toInt = (x.val : Int) := by
  have hm : (0 : Fin 1) ∈ d.scatterDimsToOperandDims := by rw [hsd]; exact List.mem_singleton.2 rfl
  have hwin : d.window (ix1 i) 0 = 0 := by
    unfold ScatterDims.window
    rw [dif_neg fun h => (of_decide_eq_true (List.mem_filter.1 h).2) (by rw [hiw]; exact List.mem_singleton.2 rfl)]
  have hstart : d.start (ix1 i) idx 0 = (idx (ix2 i (0 : Fin 1))).toInt := by
    unfold ScatterDims.start
    rw [dif_pos hm]
    congr 2
    funext b
    apply Fin.ext
    unfold ScatterDims.siIdx
    match b with
    | ⟨0, _⟩ =>
      rw [dif_neg (by rw [hivd]; exact Nat.zero_ne_one)]
      unfold ScatterDims.siCoord
      simp only [Fin.val_cast]
      exact congrArg (fun X : Fin 1 => (ix1 i X).val) (Subsingleton.elim _ 0)
    | ⟨1, _⟩ =>
      rw [dif_pos (by rw [hivd])]
      show List.idxOf (0 : Fin 1) d.scatterDimsToOperandDims = 0
      rw [hsd]; simp
  rw [resultIdx?_ix1, hstart, hwin]
  omega

/-- Adding ones at `M` places of a vector of zeros: entry `x` counts the places that are `x`; a place outside the vector is dropped. -/
theorem scatter_count {N M : ℕ} (d : ScatterDims (shape1 N) (shape2 M 1) (shape1 M)) (hiw : d.insertedWindowDims = [0])
    (hsd : d.scatterDimsToOperandDims = [0]) (hivd : d.indexVectorDim = 1) (x0 : IVec (shape1 N) 32) (hx0 : ∀ i, x0 i = 0#32)
    (idx : IVec (shape2 M 1) 32) (upd : IVec (shape1 M) 32) (hupd : ∀ i, upd i = 1#32) (gi : ℕ → ℕ)
    (hg : ∀ i : Fin M, idx (ix2 i (0 : Fin 1)) = BitVec.ofNat 32 (gi i.val)) (hlt : ∀ i : Fin M, gi i.val < 2 ^ 31) (x : Fin N) :
    Host.scatter d IntOp.addi x0 idx upd (ix1 x) = BitVec.ofNat 32 (Nat.count (fun i => gi i = x.val) M) := by
  have hit : ∀ n : Fin (shape1 M).numel, d.resultIdx? ((shape1 M).rowMajor.symm n) idx = some (ix1 x) ↔ gi n.val = x.val := fun n => by
    rw [symm1, lands_vec d hiw hsd hivd, hg, StableHlo.Predicate.toInt_ofNat_small _ (hlt _)]
    exact Int.natCast_inj
  rw [scatter_at]
  have key : ∀ (l : List (Fin (shape1 M).numel)) (z : ℕ),
      l.foldl (fun a n => if d.resultIdx? ((shape1 M).rowMajor.symm n) idx = some (ix1 x)
        then IntOp.addi a (upd ((shape1 M).rowMajor.symm n)) else a) (BitVec.ofNat 32 z)
        = BitVec.ofNat 32 (z + l.countP fun n => decide (gi n.val = x.val)) := by
    intro l
    induction l with
    | nil => intro z; rfl
    | cons n l ih =>
      intro z
      rw [List.foldl_cons, List.countP_cons]
      by_cases h : gi n.val = x.val
      · rw [if_pos ((hit n).2 h), hupd, if_pos (decide_eq_true h)]
        have e : IntOp.addi (BitVec.ofNat 32 z) 1#32 = BitVec.ofNat 32 (z + 1) := (BitVec.ofNat_add z 1).symm
        rw [e, ih]
        congr 1; omega
      · rw [if_neg fun k => h ((hit n).1 k), if_neg fun k => h (of_decide_eq_true k), ih]
        rfl
  rw [hx0]
  refine (key _ 0).trans ?_
  rw [Nat.zero_add, countP_finRange _ fun i => gi i = x.val, numel1]

/-- Update `(r, l)` of a scatter of rows into a matrix, one index each, lands at `(g, c)` exactly when its row's index word, read signed,
    is `g` and its column is `c`. -/
theorem lands_rows {G N C : ℕ} (d : ScatterDims (shape2 G C) (shape2 N 1) (shape2 N C)) (huw : d.updateWindowDims = [1])
    (hiw : d.insertedWindowDims = [0]) (hsd : d.scatterDimsToOperandDims = [0]) (hivd : d.indexVectorDim = 1)
    (idx : IVec (shape2 N 1) 32) (r : Fin N) (l : Fin C) (g : Fin G) (c : Fin C) :
    d.resultIdx? (ix2 r l) idx = some (ix2 g c) ↔ (idx (ix2 r (0 : Fin 1))).toInt = (g.val : Int) ∧ l = c := by
  obtain ⟨uw, iw, sd, ivd, wf⟩ := d
  subst huw hiw hsd hivd
  have hwin0 : ScatterDims.window ⟨[1], [0], [0], 1, wf⟩ (ix2 r l) 0 = 0 := rfl
  have hwin1 : ScatterDims.window ⟨[1], [0], [0], 1, wf⟩ (ix2 r l) 1 = l.val := rfl
  have hstart1 : ScatterDims.start ⟨[1], [0], [0], 1, wf⟩ (ix2 r l) idx 1 = 0 := rfl
  have hstart0 : ScatterDims.start ⟨[1], [0], [0], 1, wf⟩ (ix2 r l) idx 0 = (idx (ix2 r (0 : Fin 1))).toInt := by
    unfold ScatterDims.start
    rw [dif_pos (List.mem_singleton.2 rfl)]
    congr 2
    funext b
    match b with
    | ⟨0, _⟩ => rfl
    | ⟨1, _⟩ => rfl
  rw [resultIdx?_ix2, hstart0, hwin0, hstart1, hwin1, Fin.ext_iff]
  omega

/-- Adding rows into a matrix over the extended reals: entry `(g, c)` gains the entries `(r, c)` of the rows `r` whose index word is `g`. -/
theorem scatterAdd_rows {G N C : ℕ} (d : ScatterDims (shape2 G C) (shape2 N 1) (shape2 N C)) (huw : d.updateWindowDims = [1])
    (hiw : d.insertedWindowDims = [0]) (hsd : d.scatterDimsToOperandDims = [0]) (hivd : d.indexVectorDim = 1)
    (x : FVec Ideal (shape2 G C) .f32) (idx : IVec (shape2 N 1) 32) (upd : FVec Ideal (shape2 N C) .f32) (gi : Fin N → ℕ)
    (hg : ∀ r : Fin N, idx (ix2 r (0 : Fin 1)) = BitVec.ofNat 32 (gi r)) (hlt : ∀ r, gi r < 2 ^ 31) (g : Fin G) (c : Fin C) :
    (Host.scatterAdd (F := Ideal) d x idx upd (ix2 g c) : EReal)
      = x (ix2 g c) + ∑ r : Fin N, if gi r = g.val then (upd (ix2 r c) : EReal) else 0 := by
  show Ideal.hostScatterAdd d x idx upd (ix2 g c) = _
  unfold Ideal.hostScatterAdd
  congr 1
  rw [sum_filter, sum_idx2]
  refine sum_congr rfl fun r _ => ?_
  have e : ∀ l : Fin C, (d.resultIdx? (ix2 r l) idx = some (ix2 g c)) = (gi r = g.val ∧ l = c) := fun l => propext <| by
    rw [lands_rows d huw hiw hsd hivd, hg, StableHlo.Predicate.toInt_ofNat_small _ (hlt r), Int.natCast_inj]
  simp only [e]
  by_cases h : gi r = g.val
  · simp [h]
  · simp [h]

end Cert.Segments
-- ==== Proof.Spec.lean ====
/- What both programs compute, as sums over rows and channels of extended reals: a layer normalisation of scalars and a
   rescaling of vectors, each by statistics of the segment a row lies in.  The two ways of taking the statistics — the
   variance from deviations or from two moments, the mean length by rows or by channels — are shown to agree. -/
module

public import proofs.«01_k».proof.Proof.Segments
public import Idealize.ShloMosaic.Lib.Pointwise.Index
public import Idealize.ShloMosaic.Lib.WordCmp
public import Mathlib.Data.EReal.Inv
public import Mathlib.Tactic.FieldSimp
public import Mathlib.Tactic.Ring
public import Mathlib.Tactic.Linarith

@[expose] public section

noncomputable section

namespace Cert.Spec

open Idealize.ShloMosaic Cert.Segments Finset

/-! ## The constants -/

/-- The number of channels, as the programs spell it. -/
def c256 : EReal := Ideal.ofBits .f32 0x43800000#32
/-- The small constant added under the square roots, as the programs spell it. -/
def eps : EReal := Ideal.ofBits .f32 0x358637BD#32

theorem c256_eq : c256 = ((256 : ℝ) : EReal) := by
  unfold c256
  simp [Ideal.ofBits, Ideal.ieee, -EReal.coe_mul]; norm_num

theorem eps_eq : ∃ e : ℝ, 0 < e ∧ eps = (e : EReal) := by
  refine ⟨8796093 * 2 ^ (-43 : ℤ), by positivity, ?_⟩
  unfold eps
  simp [Ideal.ofBits, Ideal.ieee, -EReal.coe_mul]

/-! ## The statistics and the results -/

section Defs

variable (n : ℕ → ℕ) (S : ℕ → Fin 256 → EReal) (U : ℕ → Fin 3 → Fin 256 → EReal) (w b : Fin 256 → EReal)

/-- The sum of `f` over the rows of segment `g`. -/
def segSum (f : ℕ → EReal) (g : ℕ) : EReal := ∑ r ∈ range 16290, if seg n r = g then f r else 0
/-- A row's scalars less their mean over the channels. -/
def cen (r : ℕ) (l : Fin 256) : EReal := S r l - Ideal.div (∑ k, S r k) c256
/-- The number of rows of segment `g`, at least one. -/
def cnt (g : ℕ) : EReal := ((max (n g) 1 : ℕ) : ℝ)
/-- The mean of the centred scalars over a segment, channel by channel. -/
def mean (g : ℕ) (l : Fin 256) : EReal := Ideal.div (segSum n (fun r => cen S r l) g) (cnt n g)
/-- A row's centred scalars less their segment's mean. -/
def dev (r : ℕ) (l : Fin 256) : EReal := cen S r l - mean n S (seg n r) l
/-- The variance over a segment, averaged over the channels. -/
def var (g : ℕ) : EReal := Ideal.div (∑ l, Ideal.div (segSum n (fun r => dev n S r l * dev n S r l) g) (cnt n g)) c256
/-- The first result: the deviations divided by the deviation's root mean square, scaled and shifted by channel. -/
def out1 (r : ℕ) (l : Fin 256) : EReal := Ideal.div (dev n S r l) (Ideal.sqrt (var n S (seg n r) + eps)) * w l + b l
/-- The length of a row's vector, channel by channel. -/
def nrm (r : ℕ) (l : Fin 256) : EReal := Ideal.sqrt (U r 0 l * U r 0 l + U r 1 l * U r 1 l + U r 2 l * U r 2 l + eps)
/-- The mean length over a segment and the channels. -/
def scale (g : ℕ) : EReal := Ideal.div (segSum n (fun r => Ideal.div (∑ l, nrm U r l) c256) g) (cnt n g)
/-- The second result: the vectors divided by their segment's mean length. -/
def out2 (r : ℕ) (a : Fin 3) (l : Fin 256) : EReal := Ideal.div (U r a l) (scale n U (seg n r))

/-- The variance from two moments: the mean of the squares less the square of the mean, not below zero. -/
def var2 (g : ℕ) : EReal :=
  max (Ideal.div (Ideal.div (∑ l, segSum n (fun r => cen S r l * cen S r l) g) (cnt n g) - ∑ l, mean n S g l * mean n S g l) c256) 0
/-- The mean length, summed by channels and divided once. -/
def scale2 (g : ℕ) : EReal := Ideal.div (∑ l, segSum n (fun r => nrm U r l) g) (cnt n g * c256)

end Defs

/-! ## Arrays as functions of a row number -/

/-- The entry of a matrix at row `r` and channel `l`; past the last row, 0. -/
def rows2 (x : (⟨2, ![16290, 256]⟩ : Shape).Idx → EReal) (r : ℕ) (l : Fin 256) : EReal := if h : r < 16290 then x (ix2 ⟨r, h⟩ l) else 0
/-- The entry of an array of vectors at row `r`, component `a` and channel `l`; past the last row, 0. -/
def rows3 (x : (⟨3, ![16290, 3, 256]⟩ : Shape).Idx → EReal) (r : ℕ) (a : Fin 3) (l : Fin 256) : EReal :=
  if h : r < 16290 then x (ix3 ⟨r, h⟩ a l) else 0

theorem rows2_fin (x : (⟨2, ![16290, 256]⟩ : Shape).Idx → EReal) (r : Fin 16290) (l : Fin 256) : rows2 x r.val l = x (ix2 r l) := dif_pos r.isLt
theorem rows3_fin (x : (⟨3, ![16290, 3, 256]⟩ : Shape).Idx → EReal) (r : Fin 16290) (a : Fin 3) (l : Fin 256) :
    rows3 x r.val a l = x (ix3 r a l) := dif_pos r.isLt

/-- The count, at least one, as the programs convert it from a word. -/
theorem cnt_word (n : ℕ → ℕ) (g : ℕ) (h : n g < 2 ^ 31) :
    (FloatOps.sitofp (F := Ideal) FTy.f32 (IntOp.maxsi (BitVec.ofNat 32 (n g)) 1#32) : EReal) = cnt n g := by
  show ((((IntOp.maxsi (BitVec.ofNat 32 (n g)) 1#32).toInt : ℤ) : ℝ) : EReal) = _
  unfold cnt
  congr 1
  have e : (IntOp.maxsi (BitVec.ofNat 32 (n g)) 1#32).toInt = ((max (n g) 1 : ℕ) : ℤ) := by
    unfold IntOp.maxsi
    have h1 := WordCmp.toInt_ofNat_of_lt (w := 32) (a := n g) h
    have h2 : (1#32 : BitVec 32).toInt = 1 := rfl
    split <;> rename_i hc <;> rw [BitVec.slt_iff_toInt_lt, h1, h2] at hc
    · rw [h1]; omega
    · rw [h2]; omega
  rw [e]
  norm_cast

/-! ## Real numbers inside the extended ones -/

theorem coe_sum {ι : Type} (s : Finset ι) (f : ι → ℝ) : ((∑ i ∈ s, f i : ℝ) : EReal) = ∑ i ∈ s, (f i : EReal) := by
  classical
  induction s using Finset.induction_on with
  | empty => rfl
  | insert a s h ih => rw [sum_insert h, sum_insert h, EReal.coe_add, ih]

theorem div_real (a : ℝ) {y : ℝ} (h : y ≠ 0) : Ideal.div (a : EReal) (y : EReal) = ((a / y : ℝ) : EReal) := by
  rw [Ideal.div_coe h, ← EReal.coe_mul]; congr 1; field_simp

theorem coe_ite (p : Prop) [Decidable p] (a : ℝ) : (if p then (a : EReal) else 0) = ((if p then a else 0 : ℝ) : EReal) := by
  split <;> rfl

theorem segSum_real (n : ℕ → ℕ) (f : ℕ → ℝ) (g : ℕ) :
    segSum n (fun r => (f r : EReal)) g = ((∑ r ∈ range 16290, if seg n r = g then f r else 0 : ℝ) : EReal) := by
  unfold segSum
  rw [coe_sum]
  exact sum_congr rfl fun r _ => coe_ite _ _

/-- A sum of extended reals times a real number that is not negative, term by term. -/
theorem sum_mul_real {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s h ih =>
    rw [sum_insert h, sum_insert h, ← ih, EReal.right_distrib_of_nonneg_of_ne_top (EReal.coe_nonneg.2 hc) (EReal.coe_ne_top c)]

/-! ## The variance two ways -/

/-- Real numbers: the mean of the squared deviations is the mean of the squares less the squared mean; a set that is empty has any count. -/
theorem moments (A : Finset ℕ) (z : ℕ → ℝ) {N : ℝ} (hN : 0 < N) (h : (A.card : ℝ) = N ∨ A = ∅) :
    (∑ r ∈ A, (z r - (∑ r ∈ A, z r) / N) * (z r - (∑ r ∈ A, z r) / N)) / N
      = (∑ r ∈ A, z r * z r) / N - (∑ r ∈ A, z r) / N * ((∑ r ∈ A, z r) / N) := by
  rcases h with h | rfl
  · have hm : ∑ r ∈ A, z r = N * ((∑ r ∈ A, z r) / N) := by field_simp
    generalize hq : (∑ r ∈ A, z r) / N = m at hm ⊢
    have e : ∑ r ∈ A, (z r - m) * (z r - m) = (∑ r ∈ A, z r * z r) - 2 * m * (∑ r ∈ A, z r) + (A.card : ℝ) * (m * m) := by
      rw [mul_sum, ← sum_sub_distrib, ← nsmul_eq_mul, ← sum_const, ← sum_add_distrib]
      exact sum_congr rfl fun r _ => by ring
    rw [e, h, hm]
    field_simp
    ring
  · simp

section Variance

variable (n : ℕ → ℕ) (hN : first n 181 = 16290) (S : ℕ → Fin 256 → EReal) (y : ℕ → Fin 256 → ℝ) (hS : ∀ r l, S r l = (y r l : EReal))

include hS in
theorem cen_real (r : ℕ) (l : Fin 256) : cen S r l = ((y r l - (∑ k, y r k) / 256 : ℝ) : EReal) := by
  unfold cen
  simp only [hS]
  rw [c256_eq, ← coe_sum, div_real _ (by norm_num), EReal.coe_sub]

/-- The count as a real number. -/
theorem cnt_pos (g : ℕ) : (0 : ℝ) < ((max (n g) 1 : ℕ) : ℝ) := by
  have : 0 < max (n g) 1 := by omega
  exact_mod_cast this

include hN in
/-- The rows of a segment: as many as its count says, or none. -/
theorem card_or (g : ℕ) (hg : g < 181) : (((range 16290).filter fun r => seg n r = g).card : ℝ) = ((max (n g) 1 : ℕ) : ℝ)
    ∨ (range 16290).filter (fun r => seg n r = g) = ∅ := by
  have hcard := card_seg n hN hg
  rcases Nat.eq_zero_or_pos (n g) with h0 | h0
  · exact Or.inr (card_eq_zero.1 (hcard.trans h0))
  · exact Or.inl (by rw [hcard, max_eq_left h0])

include hN hS in
/-- The variance from deviations is the variance from two moments, is real, and is not negative. -/
theorem var_eq {g : ℕ} (hg : g < 181) : var2 n S g = var n S g ∧ ∃ x : ℝ, 0 ≤ x ∧ var n S g = (x : EReal) := by
  set z : ℕ → Fin 256 → ℝ := fun r l => y r l - (∑ k, y r k) / 256 with hz
  have hc : ∀ r l, cen S r l = (z r l : EReal) := cen_real S y hS
  have hp := cnt_pos n g
  set N : ℝ := ((max (n g) 1 : ℕ) : ℝ) with hNdef
  have hcnt : cnt n g = (N : EReal) := rfl
  set m : Fin 256 → ℝ := fun l => (∑ r ∈ range 16290, if seg n r = g then z r l else 0) / N with hm
  have hmean : ∀ l, mean n S g l = (m l : EReal) := fun l => by
    unfold mean
    simp only [hc]
    rw [segSum_real, hcnt, div_real _ hp.ne']
  set x : ℝ := (∑ l, (∑ r ∈ range 16290, if seg n r = g then (z r l - m l) * (z r l - m l) else 0) / N) / 256 with hx
  have hx0 : 0 ≤ x := by
    refine div_nonneg (sum_nonneg fun l _ => div_nonneg (sum_nonneg fun r _ => ?_) hp.le) (by norm_num)
    split
    · exact mul_self_nonneg _
    · exact le_rfl
  have hvar : var n S g = (x : EReal) := by
    have e : ∀ l, segSum n (fun r => dev n S r l * dev n S r l) g
        = ((∑ r ∈ range 16290, if seg n r = g then (z r l - m l) * (z r l - m l) else 0 : ℝ) : EReal) := fun l => by
      rw [← segSum_real]
      unfold segSum
      refine sum_congr rfl fun r _ => ?_
      by_cases h : seg n r = g
      · rw [if_pos h, if_pos h]
        show dev n S r l * dev n S r l = _
        unfold dev
        rw [h, hc, hmean, ← EReal.coe_sub, ← EReal.coe_mul]
      · rw [if_neg h, if_neg h]
    unfold var
    simp only [e, hcnt, div_real _ hp.ne']
    rw [← coe_sum, c256_eq, div_real _ (by norm_num)]
  have hvar2 : var2 n S g = (x : EReal) := by
    unfold var2
    have e : ∀ l, segSum n (fun r => cen S r l * cen S r l) g
        = ((∑ r ∈ range 16290, if seg n r = g then z r l * z r l else 0 : ℝ) : EReal) := fun l => by
      rw [← segSum_real]
      unfold segSum
      refine sum_congr rfl fun r _ => ?_
      show (if seg n r = g then cen S r l * cen S r l else 0) = _
      rw [hc, ← EReal.coe_mul]
    simp only [e, hmean, hcnt, ← EReal.coe_mul]
    rw [← coe_sum, ← coe_sum, div_real _ hp.ne', ← EReal.coe_sub, c256_eq, div_real _ (by norm_num)]
    have q : (∑ l, ∑ r ∈ range 16290, if seg n r = g then z r l * z r l else 0) / N - ∑ l, m l * m l
        = ∑ l, (∑ r ∈ range 16290, if seg n r = g then (z r l - m l) * (z r l - m l) else 0) / N := by
      rw [sum_div, ← sum_sub_distrib]
      refine sum_congr rfl fun l _ => ?_
      simp only [hm, ← sum_filter]
      exact (moments _ (fun r => z r l) hp (card_or n hN g hg)).symm
    rw [q]
    exact max_eq_left (EReal.coe_nonneg.2 hx0)
  exact ⟨hvar2.trans hvar.symm, x, hx0, hvar⟩

include hS in
/-- A segment's mean is real. -/
theorem mean_real (g : ℕ) (l : Fin 256) : ∃ x : ℝ, mean n S g l = (x : EReal) := by
  unfold mean
  simp only [cen_real S y hS]
  rw [segSum_real]
  exact ⟨_, div_real _ (cnt_pos n g).ne'⟩

include hN hS in
/-- The first result from the moments: the centred row less the mean (in two parts), times the reciprocal of the root. -/
theorem out1_eq (w b : Fin 256 → EReal) (r : ℕ) (l : Fin 256) :
    (cen S r l - (mean n S (seg n r) l + (mean n S (seg n r) l - mean n S (seg n r) l)))
        * Ideal.div 1 (Ideal.sqrt (var2 n S (seg n r) + eps)) * w l + b l = out1 n S w b r l := by
  obtain ⟨m, hm⟩ := mean_real n S y hS (seg n r) l
  obtain ⟨hv, x, hx, hxv⟩ := var_eq n hN S y hS (seg_lt n r)
  obtain ⟨e, he, hee⟩ := eps_eq
  have h0 : Ideal.sqrt (var n S (seg n r) + eps) ≠ 0 := by
    rw [hxv, hee, ← EReal.coe_add, Ideal.sqrt_coe, if_neg (by linarith)]
    exact_mod_cast (Real.sqrt_pos.2 (by linarith)).ne'
  rw [hv, Ideal.mul_one_div h0]
  unfold out1 dev
  rw [hm, ← EReal.coe_sub, ← EReal.coe_add, sub_self, add_zero]

end Variance

/-! ## The mean length two ways -/

section Lengths

variable (n : ℕ → ℕ) (U : ℕ → Fin 3 → Fin 256 → EReal)

theorem mul_self_nonneg' (x : EReal) : 0 ≤ x * x := by
  rcases le_total 0 x with h | h
  · exact mul_nonneg h h
  · exact EReal.mul_nonneg_iff.2 (Or.inr ⟨h, h⟩)

/-- A length is positive: a positive constant is added under its root. -/
theorem nrm_pos (r : ℕ) (l : Fin 256) : 0 < nrm U r l := by
  obtain ⟨e, he, hee⟩ := eps_eq
  have h1 : 0 ≤ U r 0 l * U r 0 l + U r 1 l * U r 1 l + U r 2 l * U r 2 l :=
    add_nonneg (add_nonneg (mul_self_nonneg' _) (mul_self_nonneg' _)) (mul_self_nonneg' _)
  unfold nrm
  generalize U r 0 l * U r 0 l + U r 1 l * U r 1 l + U r 2 l * U r 2 l = q at h1
  induction q using EReal.rec with
  | bot => simp at h1
  | top => rw [hee, EReal.top_add_coe, Ideal.sqrt_top]; simp
  | coe x =>
    have hx : 0 ≤ x := EReal.coe_nonneg.1 h1
    rw [hee, ← EReal.coe_add, Ideal.sqrt_coe, if_neg (by linarith)]
    exact_mod_cast Real.sqrt_pos.2 (by linarith)

/-- Summed by channels and divided once, or averaged row by row: the mean length is the same. -/
theorem scale_eq (g : ℕ) : scale2 n U g = scale n U g := by
  have hp := cnt_pos n g
  unfold scale2 scale
  have hcnt : cnt n g = (((max (n g) 1 : ℕ) : ℝ) : EReal) := rfl
  rw [hcnt, c256_eq, ← EReal.coe_mul, Ideal.div_coe (by positivity), Ideal.div_coe hp.ne']
  have e1 : ∑ l, segSum n (fun r => nrm U r l) g = segSum n (fun r => ∑ l, nrm U r l) g := by
    unfold segSum
    rw [sum_comm]
    refine sum_congr rfl fun r _ => ?_
    by_cases h : seg n r = g
    · simp [h]
    · simp [h]
  have e2 : segSum n (fun r => Ideal.div (∑ l, nrm U r l) ((256 : ℝ) : EReal)) g = segSum n (fun r => ∑ l, nrm U r l) g * ((1 / 256 : ℝ) : EReal) := by
    unfold segSum
    rw [sum_mul_real _ _ (by norm_num)]
    refine sum_congr rfl fun r _ => ?_
    by_cases h : seg n r = g
    · rw [if_pos h, if_pos h]
      exact Ideal.div_coe (by norm_num) _
    · rw [if_neg h, if_neg h, zero_mul]
  rw [e1, e2, mul_assoc, ← EReal.coe_mul]
  generalize segSum n (fun r => ∑ l, nrm U r l) g = t
  generalize ((max (n g) 1 : ℕ) : ℝ) = k
  rw [one_div_mul_one_div, mul_comm k]

/-- The mean length of a row's own segment is positive. -/
theorem scale_pos {r : ℕ} (hr : r < 16290) : 0 < scale n U (seg n r) := by
  have hp := cnt_pos n (seg n r)
  rw [← scale_eq]
  unfold scale2
  have hcnt : cnt n (seg n r) = (((max (n (seg n r)) 1 : ℕ) : ℝ) : EReal) := rfl
  rw [hcnt, c256_eq, ← EReal.coe_mul, Ideal.div_coe (by positivity)]
  refine EReal.mul_pos ?_ (by exact_mod_cast (by positivity : (0:ℝ) < _))
  have hs : ∀ l, nrm U r l ≤ segSum n (fun r => nrm U r l) (seg n r) := fun l => by
    unfold segSum
    refine le_trans (le_of_eq (if_pos rfl).symm) (single_le_sum (f := fun i => if seg n i = seg n r then nrm U i l else 0)
      (fun i _ => ?_) (mem_range.2 hr))
    split
    · exact (nrm_pos U i l).le
    · exact le_rfl
  refine lt_of_lt_of_le ((nrm_pos U r 0).trans_le (hs 0)) (single_le_sum (f := fun l => segSum n (fun r => nrm U r l) (seg n r))
    (fun l _ => (nrm_pos U r l).le.trans (hs l)) (mem_univ 0))

/-- The second result from the mean length summed by channels: the vector times its reciprocal where it is positive. -/
theorem out2_eq {r : ℕ} (hr : r < 16290) (a : Fin 3) (l : Fin 256) :
    U r a l * (if 0 < scale2 n U (seg n r) then Ideal.div 1 (scale2 n U (seg n r)) else 0) = out2 n U r a l := by
  have hp := scale_pos n U hr
  rw [scale_eq, if_pos hp, Ideal.mul_one_div hp.ne']
  rfl

end Lengths

end Cert.Spec
-- ==== Proof.KernelPoint.lean ====
/- The kernel function's vector computations read at an index, over the extended reals. -/
module

public import proofs.«01_k».proof.Proof.KernelIdealBody
public import proofs.«01_k».proof.Proof.Spec
public import Idealize.ShloMosaic.Lib.Pointwise
public import Idealize.ShloMosaic.Lib.WordCmp

@[expose] public section

set_option maxRecDepth 16384

noncomputable section

namespace Cert.KernelIdeal.Point

open Cert.KernelIdeal Cert.KernelIdeal.Gen Cert.KernelIdeal.Body Cert.Segments Cert.Spec
open Idealize.ShloMosaic Finset

/-! ## The words -/

/-- The padded segment starts: past the last segment, a number larger than any row. -/
def st (n : ℕ → ℕ) (g : ℕ) : ℕ := if g < 181 then first n g else 1073741824
/-- The padded segment ends: past the last segment, the number of rows. -/
def en (n : ℕ → ℕ) (g : ℕ) : ℕ := if g < 181 then first n (g + 1) else 16290
/-- The two windows of words hold the padded starts and ends. -/
def Bounds (n : ℕ → ℕ) (x1 x2 : Vec Ideal S1x256 .i32) : Prop :=
  (∀ g : Fin 256, x1 (ix2 0 g) = BitVec.ofNat 32 (st n g.val)) ∧ ∀ g : Fin 256, x2 (ix2 0 g) = BitVec.ofNat 32 (en n g.val)
/-- The entry of the one-hot matrix: 1 where the row is in the segment. -/
def oh (n : ℕ → ℕ) (g R : ℕ) : EReal := if g < 181 ∧ first n g ≤ R ∧ R < first n (g + 1) then 1 else 0

theorem blk_at : ∀ t : Fin grid0.N, blk (grid0.coords t) = BitVec.ofNat 32 (t.val % 16) := by decide +kernel

/-- The row number as the function computes it. -/
theorem row_word (q : ℕ) (p : Fin 1024) :
    IntOp.addi (Scalar.muli (BitVec.ofNat 32 q) 1024#32) (BitVec.ofNat 32 p.val) = BitVec.ofNat 32 (1024 * q + p.val) := by
  show BitVec.ofNat 32 q * BitVec.ofNat 32 1024 + BitVec.ofNat 32 p.val = _
  rw [← BitVec.ofNat_mul, ← BitVec.ofNat_add, Nat.mul_comm]

section Words

variable {n : ℕ → ℕ} (hN : first n 181 = 16290) {x1 x2 : Vec Ideal S1x256 .i32} (hb : Bounds n x1 x2)

include hN in
theorem first_le {g : ℕ} (hg : g ≤ 181) : first n g ≤ 16290 := hN ▸ first_mono n hg

include hN in
theorem st_small (g : ℕ) : st n g < 2 ^ 31 := by
  unfold st
  split
  · have := first_le hN (g := g) (by omega); omega
  · decide
include hN in
theorem en_small (g : ℕ) : en n g < 2 ^ 31 := by
  unfold en
  split
  · have := first_le hN (g := g + 1) (by omega); omega
  · decide

include hN hb in
/-- The one-hot matrix of a block. -/
theorem pay1_at (t : Fin grid0.N) (p : Fin 1024) (g : Fin 256) :
    (k0_pay1 (F := Ideal) (grid0.coords t) x1 x2 (ix2 p g) : EReal) = oh n g.val (1024 * (t.val % 16) + p.val) := by
  have hR : 1024 * (t.val % 16) + p.val < 16384 := by have := p.isLt; omega
  have hw := blk_at t
  unfold blk at hw
  pointwise [k0_pay1]
  rw [hw, row_word, hb.1, hb.2, WordCmp.cmpi_sge_ofNat (lt_trans hR (by decide)) (st_small hN _), WordCmp.cmpi_slt_ofNat (lt_trans hR (by decide)) (en_small hN _),
    WordCmp.andi_ofBool]
  generalize 1024 * (t.val % 16) + p.val = R at hR
  have e : ((decide (st n g.val ≤ R)) && decide (R < en n g.val)) = decide (g.val < 181 ∧ first n g.val ≤ R ∧ R < first n (g.val + 1)) := by
    unfold st en
    by_cases hg : g.val < 181
    · simp [hg]
    · simp only [hg, if_false, false_and, decide_false]
      rw [decide_eq_false (by omega : ¬ 1073741824 ≤ R)]
      rfl
  rw [e]
  unfold oh
  by_cases hc : g.val < 181 ∧ first n g.val ≤ R ∧ R < first n (g.val + 1)
  · rw [if_pos hc, decide_eq_true hc]
    show ((((BitVec.setWidth 32 (BitVec.ofBool true)).toInt : ℤ) : ℝ) : EReal) = 1
    rw [show (BitVec.setWidth 32 (BitVec.ofBool true)).toInt = 1 from by decide]
    norm_num
  · rw [if_neg hc, decide_eq_false hc]
    show ((((BitVec.setWidth 32 (BitVec.ofBool false)).toInt : ℤ) : ℝ) : EReal) = 0
    rw [show (BitVec.setWidth 32 (BitVec.ofBool false)).toInt = 0 from by decide]
    norm_num

include hb in
theorem lastEnd_at : lastEnd x2 (ix2 0 0) = BitVec.ofNat 32 16290 := by
  have e : lastEnd x2 (ix2 0 0) = x2 (ix2 0 255) := congrArg x2 (funext fun a => Fin.ext (by fin_cases a <;> rfl))
  rw [e, hb.2]
  rfl

include hb in
/-- The mask of the rows that exist. -/
theorem pay13_at (t : Fin grid0.N) (p : Fin 1024) :
    k0_pay13 (F := Ideal) (blk (grid0.coords t)) (lastEnd x2) (ix2 p 0) = BitVec.ofBool (decide (1024 * (t.val % 16) + p.val < 16290)) := by
  have hR : 1024 * (t.val % 16) + p.val < 16384 := by have := p.isLt; omega
  pointwise [k0_pay13]
  rw [lastEnd_at hb, blk_at, row_word, WordCmp.cmpi_slt_ofNat (lt_trans hR (by decide)) (by decide)]

end Words

/-! ## The accumulating points -/

/-- The centred scalars of a row, 0 past the last row. -/
def Yn (S : ℕ → Fin 256 → EReal) (R : ℕ) (l : Fin 256) : EReal := if R < 16290 then cen S R l else 0
/-- The lengths of a row's vectors, 0 past the last row. -/
def Qn (U : ℕ → Fin 3 → Fin 256 → EReal) (R : ℕ) (l : Fin 256) : EReal := if R < 16290 then nrm U R l else 0

/-- The window of scalars holds the block's rows that exist. -/
def Rows2 (S : ℕ → Fin 256 → EReal) (q : ℕ) (x : Vec Ideal S1024x256 .f32) : Prop :=
  ∀ (p : Fin 1024) (l : Fin 256), 1024 * q + p.val < 16290 → x (ix2 p l) = S (1024 * q + p.val) l
/-- The window of vectors holds the block's rows that exist. -/
def Rows3 (U : ℕ → Fin 3 → Fin 256 → EReal) (q : ℕ) (x : Vec Ideal S3x1024x256 .f32) : Prop :=
  ∀ (a : Fin 3) (p : Fin 1024) (l : Fin 256), 1024 * q + p.val < 16290 → x (ix3 a p l) = U (1024 * q + p.val) a l

theorem select_bool {p : Prop} [Decidable p] (a b : EReal) : Scalar.select (BitVec.ofBool (decide p)) a b = if p then a else b := by
  by_cases h : p
  · rw [if_pos h, decide_eq_true h]; rfl
  · rw [if_neg h, decide_eq_false h]; rfl

section Acc

variable {n : ℕ → ℕ} (hN : first n 181 = 16290) {x1 x2 : Vec Ideal S1x256 .i32} (hb : Bounds n x1 x2) (t : Fin grid0.N)
  {S : ℕ → Fin 256 → EReal} {x4 : Vec Ideal S1024x256 .f32} (h4 : Rows2 S (t.val % 16) x4)
  {U : ℕ → Fin 3 → Fin 256 → EReal} {x5 : Vec Ideal S3x1024x256 .f32} (h5 : Rows3 U (t.val % 16) x5)

include hb h4 in
theorem rows0_at (p : Fin 1024) (l : Fin 256) :
    (rows0 (grid0.coords t) x2 x4 (ix2 p l) : EReal) = Yn S (1024 * (t.val % 16) + p.val) l := by
  unfold rows0
  pointwise [k0_pay14]
  rw [pay13_at hb, select_bool]
  unfold Yn
  by_cases h : 1024 * (t.val % 16) + p.val < 16290
  · rw [if_pos h, if_pos h]
    simp only [h4 p _ h]
    rfl
  · rw [if_neg h, if_neg h]

include hb h5 in
theorem norms_at (p : Fin 1024) (l : Fin 256) :
    (norms (grid0.coords t) x2 x5 (ix2 p l) : EReal) = Qn U (1024 * (t.val % 16) + p.val) l := by
  unfold norms
  pointwise [k0_pay16, k0_pay15]
  rw [pay13_at hb, select_bool]
  unfold Qn
  by_cases h : 1024 * (t.val % 16) + p.val < 16290
  · rw [if_pos h, if_pos h]
    simp only [h5 _ p _ h]
    rfl
  · rw [if_neg h, if_neg h]

include hN hb h4 in
/-- The sums of the centred scalars by segment, one block further. -/
theorem sums1_at (a : Vec Ideal S256x256 .f32) (g l : Fin 256) :
    (sums1 (grid0.coords t) x1 x2 x4 a (ix2 g l) : EReal)
      = a (ix2 g l) + ∑ p ∈ range 1024, oh n g.val (1024 * (t.val % 16) + p) * Yn S (1024 * (t.val % 16) + p) l := by
  unfold sums1
  pointwise [k0_pay7]
  rw [← Fin.sum_univ_eq_sum_range (fun p => oh n g.val (1024 * (t.val % 16) + p) * Yn S (1024 * (t.val % 16) + p) l) 1024]
  refine congrArg (fun z : EReal => (a (ix2 g l) : EReal) + z) (sum_congr rfl fun p _ => ?_)
  rw [pay1_at hN hb, rows0_at hb t h4]

include hN hb h4 in
/-- The sums of their squares, one block further. -/
theorem sums2_at (a : Vec Ideal S256x256 .f32) (g l : Fin 256) :
    (sums2 (grid0.coords t) x1 x2 x4 a (ix2 g l) : EReal)
      = a (ix2 g l) + ∑ p ∈ range 1024, oh n g.val (1024 * (t.val % 16) + p)
          * (Yn S (1024 * (t.val % 16) + p) l * Yn S (1024 * (t.val % 16) + p) l) := by
  unfold sums2
  pointwise [k0_pay8]
  rw [← Fin.sum_univ_eq_sum_range (fun p => oh n g.val (1024 * (t.val % 16) + p) * (Yn S (1024 * (t.val % 16) + p) l * Yn S (1024 * (t.val % 16) + p) l)) 1024]
  refine congrArg (fun z : EReal => (a (ix2 g l) : EReal) + z) (sum_congr rfl fun p _ => ?_)
  rw [pay1_at hN hb, rows0_at hb t h4]

include hN hb h5 in
/-- The sums of the lengths, one block further. -/
theorem sums3_at (a : Vec Ideal S256x256 .f32) (g l : Fin 256) :
    (sums3 (grid0.coords t) x1 x2 x5 a (ix2 g l) : EReal)
      = a (ix2 g l) + ∑ p ∈ range 1024, oh n g.val (1024 * (t.val % 16) + p) * Qn U (1024 * (t.val % 16) + p) l := by
  unfold sums3
  pointwise [k0_pay9]
  rw [← Fin.sum_univ_eq_sum_range (fun p => oh n g.val (1024 * (t.val % 16) + p) * Qn U (1024 * (t.val % 16) + p) l) 1024]
  refine congrArg (fun z : EReal => (a (ix2 g l) : EReal) + z) (sum_congr rfl fun p _ => ?_)
  rw [pay1_at hN hb, norms_at hb t h5]

theorem zeros2_at (g l : Fin 256) : (k0_pay2 (F := Ideal) (ix2 g l) : EReal) = 0 := by pointwise [k0_pay2]
theorem zeros3_at (g l : Fin 256) : (k0_pay3 (F := Ideal) (ix2 g l) : EReal) = 0 := by pointwise [k0_pay3]
theorem zeros4_at (g l : Fin 256) : (k0_pay4 (F := Ideal) (ix2 g l) : EReal) = 0 := by pointwise [k0_pay4]

end Acc

/-! ## The sums over all rows -/

section Whole

variable {n : ℕ → ℕ} (hN : first n 181 = 16290)

include hN in
/-- The one-hot sum over the padded rows is the sum over the segment. -/
theorem oh_sum (f : ℕ → EReal) {g : ℕ} (hg : g < 181) :
    ∑ R ∈ range 16384, oh n g R * (if R < 16290 then f R else 0) = segSum n f g := by
  unfold segSum
  rw [show (16384 : ℕ) = 16290 + 94 from rfl, sum_range_add]
  have h2 : ∑ x ∈ range 94, oh n g (16290 + x) * (if 16290 + x < 16290 then f (16290 + x) else 0) = 0 :=
    sum_eq_zero fun x _ => by rw [if_neg (by omega), mul_zero]
  rw [h2, add_zero]
  refine sum_congr rfl fun R hR => ?_
  have hR' := mem_range.mp hR
  rw [if_pos hR']
  unfold oh
  by_cases h : seg n R = g
  · rw [if_pos h, if_pos ⟨hg, (seg_eq_iff n (hN ▸ hR') hg).mp h⟩, one_mul]
  · rw [if_neg h, if_neg (fun hc => h ((seg_eq_iff n (hN ▸ hR') hg).mpr hc.2)), zero_mul]

include hN in
/-- A row of the one-hot matrix picks the entry of the row's segment. -/
theorem oh_pick (f : Fin 256 → EReal) {R : ℕ} (hR : R < 16290) :
    ∑ g : Fin 256, oh n g.val R * f g = f ⟨seg n R, (seg_lt n R).trans (by decide)⟩ := by
  rw [sum_eq_single (⟨seg n R, (seg_lt n R).trans (by decide)⟩ : Fin 256)]
  · unfold oh
    rw [if_pos ⟨seg_lt n R, seg_spec n (hN ▸ hR)⟩, one_mul]
  · intro g _ hne
    unfold oh
    rw [if_neg, zero_mul]
    rintro ⟨hg, h1, h2⟩
    exact hne (Fin.ext ((seg_eq_iff n (hN ▸ hR) hg).mpr ⟨h1, h2⟩).symm)
  · intro h; exact absurd (mem_univ _) h

end Whole

/-! ## The table -/

section Table

variable {n : ℕ → ℕ} (S : ℕ → Fin 256 → EReal) (U : ℕ → Fin 3 → Fin 256 → EReal) (x3 : Vec Ideal S1x256 .i32)
  (hx : ∀ g : Fin 256, g.val < 181 → x3 (ix2 0 g) = BitVec.ofNat 32 (n g.val)) (hlt : ∀ g, g < 181 → n g < 2 ^ 31)
  (a1 a2 a3 : Vec Ideal S256x256 .f32)
  (h1 : ∀ g l : Fin 256, g.val < 181 → a1 (ix2 g l) = segSum n (fun R => cen S R l) g.val)
  (h2 : ∀ g l : Fin 256, g.val < 181 → a2 (ix2 g l) = segSum n (fun R => cen S R l * cen S R l) g.val)
  (h3 : ∀ g l : Fin 256, g.val < 181 → a3 (ix2 g l) = segSum n (fun R => nrm U R l) g.val)

include hx hlt h1 in
theorem means_at (g l : Fin 256) (hg : g.val < 181) : (k0_pay10 (F := Ideal) (k0_pay21 x3 a1) (ix2 g l) : EReal) = mean n S g.val l := by
  pointwise [k0_pay10, k0_pay21, k0_pay18, k0_pay17]
  rw [hx g hg, cnt_word n g.val (hlt _ hg), h1 g l hg]
  rfl

include hx hlt h1 in
theorem rest_at (g l : Fin 256) (hg : g.val < 181) :
    (k0_pay11 (F := Ideal) (k0_pay18 x3 a1) (k0_pay21 x3 a1) (ix2 g l) : EReal) = mean n S g.val l - mean n S g.val l := by
  pointwise [k0_pay11, k0_pay21, k0_pay18, k0_pay17]
  rw [hx g hg, cnt_word n g.val (hlt _ hg), h1 g l hg]
  rfl

include hx hlt h1 h2 in
theorem inv_std_at (g : Fin 256) (hg : g.val < 181) :
    (k0_pay19 (F := Ideal) x3 a1 a2 (ix1 g) : EReal) = Ideal.div 1 (Ideal.sqrt (var2 n S g.val + eps)) := by
  pointwise [k0_pay19, k0_pay18, k0_pay17]
  rw [hx g hg, cnt_word n g.val (hlt _ hg)]
  simp only [h1 g _ hg, h2 g _ hg]
  rfl

include hx hlt h3 in
theorem inv_norm_at (g : Fin 256) (hg : g.val < 181) :
    (k0_pay20 (F := Ideal) x3 a3 (ix1 g) : EReal) = if 0 < scale2 n U g.val then Ideal.div 1 (scale2 n U g.val) else 0 := by
  pointwise [k0_pay20, k0_pay17]
  rw [hx g hg, cnt_word n g.val (hlt _ hg)]
  simp only [h3 g _ hg]
  rfl

end Table

end Cert.KernelIdeal.Point
-- ==== Proof.KernelState.lean ====
/-
  What the kernel's scratch buffers hold before each grid point, and that one run of the function takes what they hold before a point
  to what they hold before the next: the sums of the rows seen so far by segment, the rows kept, and from point 16 on the table of
  means and reciprocals.  From the table and the kept rows the last 16 points compute the specification's two results.
-/
module

public import proofs.«01_k».proof.Proof.KernelPoint

@[expose] public section

set_option maxRecDepth 16384

noncomputable section

namespace Cert.KernelIdeal.State

open Cert.KernelIdeal Cert.KernelIdeal.Gen Cert.KernelIdeal.Body Cert.KernelIdeal.Point Cert.Segments Cert.Spec
open Idealize.ShloMosaic Finset
open Idealize.ShloMosaic.VecWindow (window put)

variable (n : ℕ → ℕ) (S : ℕ → Fin 256 → EReal) (U : ℕ → Fin 3 → Fin 256 → EReal)

/-! ## What the scratch buffers hold -/

/-- The three accumulators hold the sums by segment over the rows of the first `T` blocks. -/
def Sums (T : ℕ) (a1 a2 a3 : Vec Ideal S256x256 .f32) : Prop :=
  (∀ g l : Fin 256, a1 (ix2 g l) = ∑ R ∈ range (1024 * T), oh n g.val R * Yn S R l)
  ∧ (∀ g l : Fin 256, a2 (ix2 g l) = ∑ R ∈ range (1024 * T), oh n g.val R * (Yn S R l * Yn S R l))
  ∧ ∀ g l : Fin 256, a3 (ix2 g l) = ∑ R ∈ range (1024 * T), oh n g.val R * Qn U R l
/-- The centred rows of the first `T` blocks are kept. -/
def Kept1 (T : ℕ) (k : Vec Ideal S16384x256 .bf16) : Prop :=
  ∀ (R : Fin 16384) (l : Fin 256), R.val < 16290 → R.val < 1024 * T → k (ix2 R l) = cen S R.val l
/-- The vectors of the rows of the first `T` blocks are kept. -/
def Kept2 (T : ℕ) (k : Vec Ideal S3x16384x256 .bf16) : Prop :=
  ∀ (a : Fin 3) (R : Fin 16384) (l : Fin 256), R.val < 16290 → R.val < 1024 * T → k (ix3 a R l) = U R.val a l
/-- The table holds, for each segment, its means, the differences lost by rounding them, and its two reciprocals. -/
def Table (g : Vec Ideal S256x640 .f32) : Prop :=
  ∀ x : Fin 256, x.val < 181 →
    (∀ l : Fin 256, window g ![0, 0] S256x256.size inb_S256x640_S256x256_0_0 (ix2 x l) = mean n S x.val l)
    ∧ (∀ l : Fin 256, window g ![0, 256] S256x256.size inb_S256x640_S256x256_0_256 (ix2 x l) = mean n S x.val l - mean n S x.val l)
    ∧ window g ![0, 512] S256x128.size inb_S256x640_S256x128_0_512 (ix2 x (0 : Fin 128)) = Ideal.div 1 (Ideal.sqrt (var2 n S x.val + eps))
    ∧ window g ![0, 512] S256x128.size inb_S256x640_S256x128_0_512 (ix2 x (1 : Fin 128)) = if 0 < scale2 n U x.val then Ideal.div 1 (scale2 n U x.val) else 0
/-- What the scratch buffers hold before grid point `T`. -/
def Inv (T : ℕ) (a1 a2 a3 : Vec Ideal S256x256 .f32) (g : Vec Ideal S256x640 .f32) (k1 : Vec Ideal S16384x256 .bf16) (k2 : Vec Ideal S3x16384x256 .bf16) : Prop :=
  (1 ≤ T → T ≤ 15 → Sums n S U T a1 a2 a3) ∧ Kept1 S T k1 ∧ Kept2 U T k2 ∧ (16 ≤ T → Table n S U g)

/-! ## The offsets of the blocks in the kept rows -/

theorem off1_at : ∀ t : Fin grid0.N, t.val < 16 → k0_off1 (grid0.coords t) = ![1024 * t.val, 0] := by decide +kernel
theorem off2_at : ∀ t : Fin grid0.N, t.val < 16 → k0_off2 (grid0.coords t) = ![0, 1024 * t.val, 0] := by decide +kernel
theorem off3_at : ∀ t : Fin grid0.N, 16 ≤ t.val → k0_off3 (grid0.coords t) = ![1024 * (t.val % 16), 0] := by decide +kernel
theorem off4_at : ∀ t : Fin grid0.N, 16 ≤ t.val → k0_off4 (grid0.coords t) = ![0, 1024 * (t.val % 16), 0] := by decide +kernel

/-! ## The accumulating points -/

section Step

variable {n S U} (hN : first n 181 = 16290) {x1 x2 : Vec Ideal S1x256 .i32} (hb : Bounds n x1 x2) (t : Fin grid0.N) (h16 : t.val < 16)
  {x4 : Vec Ideal S1024x256 .f32} (h4 : Rows2 S (t.val % 16) x4) {x5 : Vec Ideal S3x1024x256 .f32} (h5 : Rows3 U (t.val % 16) x5)

include hN hb h16 h4 h5 in
theorem sums_step {a1 a2 a3 : Vec Ideal S256x256 .f32} (h : Sums n S U t.val a1 a2 a3) :
    Sums n S U (t.val + 1) (sums1 (grid0.coords t) x1 x2 x4 a1) (sums2 (grid0.coords t) x1 x2 x4 a2) (sums3 (grid0.coords t) x1 x2 x5 a3) := by
  have e : 1024 * (t.val + 1) = 1024 * t.val + 1024 := by ring
  have hm : t.val % 16 = t.val := Nat.mod_eq_of_lt h16
  refine ⟨fun g l => ?_, fun g l => ?_, fun g l => ?_⟩
  · rw [sums1_at hN hb t h4, h.1, e, sum_range_add, hm]
  · rw [sums2_at hN hb t h4, h.2.1, e, sum_range_add, hm]
  · rw [sums3_at hN hb t h5, h.2.2, e, sum_range_add, hm]

theorem sums_zero : Sums n S U 0 (k0_pay2 (F := Ideal)) (k0_pay3 (F := Ideal)) (k0_pay4 (F := Ideal)) :=
  ⟨fun g l => (zeros2_at g l).trans (by simp), fun g l => (zeros3_at g l).trans (by simp), fun g l => (zeros4_at g l).trans (by simp)⟩

include hb h16 h4 in
theorem kept1_step {k : Vec Ideal S16384x256 .bf16} (h : Kept1 S t.val k) : Kept1 S (t.val + 1) (keep1 (grid0.coords t) x2 x4 k) := by
  intro R l hR hT
  unfold keep1
  rw [off1_at t h16]
  unfold put
  by_cases hc : 1024 * t.val ≤ R.val
  · rw [dif_pos (fun a => by
      fin_cases a
      · show 1024 * t.val ≤ R.val ∧ R.val < 1024 * t.val + 1024; omega
      · show 0 ≤ l.val ∧ l.val < 0 + 256; omega)]
    have hp : R.val - 1024 * t.val < 1024 := by omega
    refine Eq.trans (b := k0_pay5 (rows0 (grid0.coords t) x2 x4) (ix2 ⟨R.val - 1024 * t.val, hp⟩ l)) ?_ ?_
    · refine congrArg (k0_pay5 (F := Ideal) (rows0 (grid0.coords t) x2 x4)) (funext fun a => Fin.ext ?_)
      fin_cases a <;> rfl
    pointwise [k0_pay5]
    rw [rows0_at hb t h4]
    have e : 1024 * (t.val % 16) + (R.val - 1024 * t.val) = R.val := by rw [Nat.mod_eq_of_lt h16]; omega
    show Yn S (1024 * (t.val % 16) + (R.val - 1024 * t.val)) l = _
    rw [e]
    exact if_pos hR
  · rw [dif_neg (fun hh => hc (hh 0).1)]
    exact h R l hR (by omega)

include h16 h5 in
theorem kept2_step {k : Vec Ideal S3x16384x256 .bf16} (h : Kept2 U t.val k) : Kept2 U (t.val + 1) (keep2 (grid0.coords t) x5 k) := by
  intro a R l hR hT
  unfold keep2
  rw [off2_at t h16]
  unfold put
  by_cases hc : 1024 * t.val ≤ R.val
  · rw [dif_pos (fun b => by
      fin_cases b
      · show 0 ≤ a.val ∧ a.val < 0 + 3; omega
      · show 1024 * t.val ≤ R.val ∧ R.val < 1024 * t.val + 1024; omega
      · show 0 ≤ l.val ∧ l.val < 0 + 256; omega)]
    have hp : R.val - 1024 * t.val < 1024 := by omega
    refine Eq.trans (b := k0_pay6 (k0_pay15 x5) (ix3 a ⟨R.val - 1024 * t.val, hp⟩ l)) ?_ ?_
    · refine congrArg (k0_pay6 (F := Ideal) (k0_pay15 x5)) (funext fun b => Fin.ext ?_)
      fin_cases b <;> rfl
    pointwise [k0_pay6, k0_pay15]
    have e : 1024 * (t.val % 16) + (R.val - 1024 * t.val) = R.val := by rw [Nat.mod_eq_of_lt h16]; omega
    refine (h5 a ⟨R.val - 1024 * t.val, hp⟩ l (by show 1024 * (t.val % 16) + (R.val - 1024 * t.val) < 16290; omega)).trans ?_
    show U (1024 * (t.val % 16) + (R.val - 1024 * t.val)) a l = _
    rw [e]
  · rw [dif_neg (fun hh => hc (hh 1).1)]
    exact h a R l hR (by omega)

end Step

/-! ## The table -/

section Tab

variable {n S U} (hN : first n 181 = 16290) {x3 : Vec Ideal S1x256 .i32}
  (hx : ∀ g : Fin 256, g.val < 181 → x3 (ix2 0 g) = BitVec.ofNat 32 (n g.val)) (hlt : ∀ g, g < 181 → n g < 2 ^ 31)

theorem win0 {α : Type} (f : S256x640.Idx → α) (w0 w1 : S256x256.Idx → α) (w2 : S256x128.Idx → α) :
    window (put (put (put f ![0, 0] S256x256.size w0) ![0, 256] S256x256.size w1) ![0, 512] S256x128.size w2) ![0, 0] S256x256.size inb_S256x640_S256x256_0_0 = w0 := by
  rw [VecWindow.window_put_of_disjoint _ _ _ _ _ _ _ 1 (by decide), VecWindow.window_put_of_disjoint _ _ _ _ _ _ _ 1 (by decide)]
  exact VecWindow.window_put_same _ _ _ _ _
theorem win1 {α : Type} (f : S256x640.Idx → α) (w1 : S256x256.Idx → α) (w2 : S256x128.Idx → α) :
    window (put (put f ![0, 256] S256x256.size w1) ![0, 512] S256x128.size w2) ![0, 256] S256x256.size inb_S256x640_S256x256_0_256 = w1 := by
  rw [VecWindow.window_put_of_disjoint _ _ _ _ _ _ _ 1 (by decide)]
  exact VecWindow.window_put_same _ _ _ _ _

theorem win2 {α : Type} (f : S256x640.Idx → α) (w2 : S256x128.Idx → α) :
    window (put f ![0, 512] S256x128.size w2) ![0, 512] S256x128.size inb_S256x640_S256x128_0_512 = w2 := VecWindow.window_put_same _ _ _ _ _

include hN hx hlt in
/-- The last accumulating point writes the table. -/
theorem table_made {a1 a2 a3 : Vec Ideal S256x256 .f32} (h : Sums n S U 16 a1 a2 a3) (g : Vec Ideal S256x640 .f32) : Table n S U (table x3 a1 a2 a3 g) := by
  have h1 : ∀ g l : Fin 256, g.val < 181 → a1 (ix2 g l) = segSum n (fun R => cen S R l) g.val := fun g l hg => (h.1 g l).trans (oh_sum hN _ hg)
  have h2 : ∀ g l : Fin 256, g.val < 181 → a2 (ix2 g l) = segSum n (fun R => cen S R l * cen S R l) g.val := fun g l hg =>
    ((h.2.1 g l).trans (sum_congr rfl fun R _ => by
      unfold Yn
      by_cases hR : R < 16290
      · rw [if_pos hR, if_pos hR]
      · rw [if_neg hR, if_neg hR, mul_zero])).trans (oh_sum hN (fun R => cen S R l * cen S R l) hg)
  have h3 : ∀ g l : Fin 256, g.val < 181 → a3 (ix2 g l) = segSum n (fun R => nrm U R l) g.val := fun g l hg => (h.2.2 g l).trans (oh_sum hN _ hg)
  intro x hg
  unfold table
  refine ⟨fun l => ?_, fun l => ?_, ?_, ?_⟩
  · refine (congrFun (win0 _ _ _ _) (ix2 x l)).trans ?_
    exact means_at S x3 hx hlt a1 h1 x l hg
  · refine (congrFun (win1 _ _ _) (ix2 x l)).trans ?_
    exact rest_at S x3 hx hlt a1 h1 x l hg
  · refine (congrFun (win2 _ _) (ix2 x (0 : Fin 128))).trans ?_
    refine Eq.trans ?_ (inv_std_at S x3 hx hlt a1 a2 h1 h2 x hg)
    pointwise [k0_pay12]
  · refine (congrFun (win2 _ _) (ix2 x (1 : Fin 128))).trans ?_
    refine Eq.trans ?_ (inv_norm_at U x3 hx hlt a3 h3 x hg)
    pointwise [k0_pay12]

end Tab

/-! ## The steps -/

section Steps

variable {n S U} (hN : first n 181 = 16290) {x1 x2 : Vec Ideal S1x256 .i32} (hb : Bounds n x1 x2) (t : Fin grid0.N)
  {x4 : Vec Ideal S1024x256 .f32} (h4 : Rows2 S (t.val % 16) x4) {x5 : Vec Ideal S3x1024x256 .f32} (h5 : Rows3 U (t.val % 16) x5)
  {a1 a2 a3 : Vec Ideal S256x256 .f32} {g : Vec Ideal S256x640 .f32} {k1 : Vec Ideal S16384x256 .bf16} {k2 : Vec Ideal S3x16384x256 .bf16}

include hN hb h4 h5 in
/-- The point that clears the accumulators. -/
theorem inv_first (h0 : t.val = 0) (h : Inv n S U t.val a1 a2 a3 g k1 k2) :
    Inv n S U (t.val + 1) (sums1 (grid0.coords t) x1 x2 x4 (k0_pay2 (F := Ideal))) (sums2 (grid0.coords t) x1 x2 x4 (k0_pay3 (F := Ideal))) (sums3 (grid0.coords t) x1 x2 x5 (k0_pay4 (F := Ideal))) g
      (keep1 (grid0.coords t) x2 x4 k1) (keep2 (grid0.coords t) x5 k2) :=
  ⟨fun _ _ => sums_step hN hb t (by omega) h4 h5 (h0 ▸ sums_zero), kept1_step hb t (by omega) h4 h.2.1, kept2_step t (by omega) h5 h.2.2.1, fun h' => by omega⟩

include hN hb h4 h5 in
/-- The points that only add to them. -/
theorem inv_mid (h0 : t.val ≠ 0) (h15 : t.val < 15) (h : Inv n S U t.val a1 a2 a3 g k1 k2) :
    Inv n S U (t.val + 1) (sums1 (grid0.coords t) x1 x2 x4 a1) (sums2 (grid0.coords t) x1 x2 x4 a2) (sums3 (grid0.coords t) x1 x2 x5 a3) g
      (keep1 (grid0.coords t) x2 x4 k1) (keep2 (grid0.coords t) x5 k2) :=
  ⟨fun _ _ => sums_step hN hb t (by omega) h4 h5 (h.1 (by omega) (by omega)), kept1_step hb t (by omega) h4 h.2.1, kept2_step t (by omega) h5 h.2.2.1,
    fun h' => by omega⟩

include hN hb h4 h5 in
/-- The point that also writes the table. -/
theorem inv_last {x3 : Vec Ideal S1x256 .i32} (hx : ∀ g : Fin 256, g.val < 181 → x3 (ix2 0 g) = BitVec.ofNat 32 (n g.val)) (hlt : ∀ g, g < 181 → n g < 2 ^ 31)
    (h15 : t.val = 15) (h : Inv n S U t.val a1 a2 a3 g k1 k2) :
    Inv n S U (t.val + 1) (sums1 (grid0.coords t) x1 x2 x4 a1) (sums2 (grid0.coords t) x1 x2 x4 a2) (sums3 (grid0.coords t) x1 x2 x5 a3)
      (table x3 (sums1 (grid0.coords t) x1 x2 x4 a1) (sums2 (grid0.coords t) x1 x2 x4 a2) (sums3 (grid0.coords t) x1 x2 x5 a3) g)
      (keep1 (grid0.coords t) x2 x4 k1) (keep2 (grid0.coords t) x5 k2) := by
  have hs := sums_step hN hb t (by omega) h4 h5 (h.1 (by omega) (by omega))
  refine ⟨fun _ h' => by omega, kept1_step hb t (by omega) h4 h.2.1, kept2_step t (by omega) h5 h.2.2.1, fun _ => ?_⟩
  rw [h15] at hs
  exact table_made hN hx hlt hs g

/-- The points that write the results change nothing of it. -/
theorem inv_apply (h16 : 16 ≤ t.val) (h : Inv n S U t.val a1 a2 a3 g k1 k2) : Inv n S U (t.val + 1) a1 a2 a3 g k1 k2 :=
  ⟨fun _ h' => by omega, fun R l hR _ => h.2.1 R l hR (by omega), fun a R l hR _ => h.2.2.1 a R l hR (by omega), fun _ => h.2.2.2 h16⟩

/-! ## The results -/

include hN hb in
/-- The block of the first result. -/
theorem out1_at (h16 : 16 ≤ t.val) (hc : k0_cond4 (grid0.coords t) = 1#1) (h : Inv n S U t.val a1 a2 a3 g k1 k2) (y : ℕ → Fin 256 → ℝ) (hS : ∀ r l, S r l = (y r l : EReal))
    {x6 x7 : Vec Ideal S1x256 .f32} (w b : Fin 256 → EReal) (h6 : ∀ l : Fin 256, x6 (ix2 0 l) = w l) (h7 : ∀ l : Fin 256, x7 (ix2 0 l) = b l)
    (p : Fin 1024) (l : Fin 256) (hR : 1024 * (t.val % 16) + p.val < 16290) :
    (Body.out1 (grid0.coords t) hc x1 x2 x6 x7 g k1 (ix2 p l) : EReal) = Spec.out1 n S w b (1024 * (t.val % 16) + p.val) l := by
  have ht := h.2.2.2 h16
  have hk : window k1 (k0_off3 (grid0.coords t)) S1024x256.size (k0_off3_inb (grid0.coords t) hc) (ix2 p l) = cen S (1024 * (t.val % 16) + p.val) l := by
    refine Eq.trans (congrArg k1 (funext fun a => Fin.ext ?_)) (h.2.1 ⟨1024 * (t.val % 16) + p.val, by omega⟩ l hR (by show _ < _; dsimp only; omega))
    refine (congrArg (fun z => z + 1 * (ix2 p l a).val) (congrFun (off3_at t h16) a)).trans ?_
    fin_cases a
    · show 1024 * (t.val % 16) + 1 * p.val = _; rw [one_mul]; rfl
    · show 0 + 1 * l.val = l.val; omega
  have hg := ht ⟨seg n (1024 * (t.val % 16) + p.val), (seg_lt n _).trans (by decide)⟩ (seg_lt n _)
  rw [← out1_eq n hN S y hS w b]
  unfold Body.out1
  generalize window k1 (k0_off3 (grid0.coords t)) S1024x256.size (k0_off3_inb (grid0.coords t) hc) = kk at hk ⊢
  generalize window g ![0, 0] S256x256.size inb_S256x640_S256x256_0_0 = g0 at hg ⊢
  generalize window g ![0, 256] S256x256.size inb_S256x640_S256x256_0_256 = g1 at hg ⊢
  generalize window g ![0, 512] S256x128.size inb_S256x640_S256x128_0_512 = g2 at hg ⊢
  pointwise [k0_pay23, k0_pay22]
  simp only [pay1_at hN hb]
  rw [oh_pick hN (fun x => g0 (ix2 x l)) hR, oh_pick hN (fun x => g1 (ix2 x l)) hR, oh_pick hN (fun x => g2 (ix2 x 0)) hR, hk, hg.1, hg.2.1, hg.2.2.1, h6, h7]

include hN hb in
/-- The block of the second result. -/
theorem out2_at (h16 : 16 ≤ t.val) (hc : k0_cond4 (grid0.coords t) = 1#1) (h : Inv n S U t.val a1 a2 a3 g k1 k2)
    (a : Fin 3) (p : Fin 1024) (l : Fin 256) (hR : 1024 * (t.val % 16) + p.val < 16290) :
    (Body.out2 (grid0.coords t) hc x1 x2 g k2 (ix3 a p l) : EReal) = Spec.out2 n U (1024 * (t.val % 16) + p.val) a l := by
  have ht := h.2.2.2 h16
  have hk : window k2 (k0_off4 (grid0.coords t)) S3x1024x256.size (k0_off4_inb (grid0.coords t) hc) (ix3 a p l) = U (1024 * (t.val % 16) + p.val) a l := by
    refine Eq.trans (congrArg k2 (funext fun b => Fin.ext ?_)) (h.2.2.1 a ⟨1024 * (t.val % 16) + p.val, by omega⟩ l hR (by show _ < _; dsimp only; omega))
    refine (congrArg (fun z => z + 1 * (ix3 a p l b).val) (congrFun (off4_at t h16) b)).trans ?_
    fin_cases b
    · show 0 + 1 * a.val = a.val; omega
    · show 1024 * (t.val % 16) + 1 * p.val = _; rw [one_mul]; rfl
    · show 0 + 1 * l.val = l.val; omega
  have hg := ht ⟨seg n (1024 * (t.val % 16) + p.val), (seg_lt n _).trans (by decide)⟩ (seg_lt n _)
  rw [← out2_eq n U hR]
  unfold Body.out2
  generalize window k2 (k0_off4 (grid0.coords t)) S3x1024x256.size (k0_off4_inb (grid0.coords t) hc) = kk at hk ⊢
  generalize window g ![0, 512] S256x128.size inb_S256x640_S256x128_0_512 = g2 at hg ⊢
  pointwise [k0_pay24, k0_pay22]
  simp only [pay1_at hN hb]
  rw [oh_pick hN (fun x => g2 (ix2 x 1)) hR, hk, hg.2.2.2]

end Steps

end Cert.KernelIdeal.State
-- ==== Proof.KernelHost.lean ====
/- What the host lines before the region leave in the arrays the kernel reads: the padded segment starts and ends, the padded
   lengths, the weight and bias as rows, and the second argument with its first two axes exchanged. -/
module

public import proofs.«01_k».proof.Proof.KernelState
public import Idealize.ShloMosaic.Lib.Routing.OpsSearch
public import Idealize.ShloMosaic.Lib.ValueLayout
public import Idealize.ShloMosaic.Lib.KernelVsHost
public import Idealize.ShloMosaic.Lib.StableHlo.Run

@[expose] public section

set_option maxRecDepth 16384

noncomputable section

namespace Cert.KernelIdeal.HostRows

open Cert.KernelIdeal Cert.KernelIdeal.Gen Cert.Segments Cert.KernelIdeal.Point
open Idealize.ShloMosaic hiding ix1 ix2 ix3
open Idealize.ShloMosaic.TcCoe Idealize.ShloMosaic.Routing Idealize.ShloMosaic.ValueIdx

/-! ## The operations -/

/-- Running sums of words. -/
abbrev sums (x : IVec S181 32) : IVec S181 32 :=
  Host.reduceWindow IntOp.addi ![181] ![1] ![180] ![0] x (broadcastInDim S_ ![] bcast_S_S_ (constantI S_ 32 0#32)) reduceWindows_S181_S181_w181s1p180_0 h_S_
/-- 181 words padded with `v` to a row of 256. -/
abbrev row (x : IVec S181 32) (v : BitVec 32) : IVec S1x256 32 :=
  shapeCast S1x256 (pad S256 ![0] ![75] ![0] x (constantI S_ 32 v) pads_S181_S256_0750 h_S_) shapeCasts_S256_S1x256

theorem row_at (x : IVec S181 32) (v : BitVec 32) (g : Fin 256) :
    row x v (ix2 0 g) = if h : g.val < 181 then x (ix1 ⟨g.val, h⟩) else v := by
  refine (shapeCast_a_1a_apply _ _ _ _).trans ?_
  by_cases h : g.val < 181
  · rw [dif_pos h]
    exact pad_apply_of_inside _ _ _ _ _ _ _ _ (ix1 ⟨g.val, h⟩) fun a => by
      match a with
      | ⟨0, _⟩ => show g.val = 0 + g.val * (0 + 1); omega
  · rw [dif_neg h]
    refine (pad_apply_of_not_inside _ _ _ _ _ _ _ _ 0 fun ha => h ?_).trans rfl
    have e : (g.val - 0) / (0 + 1) < 181 := ha.2.2
    omega

section Words

variable (x : IVec S181 32) (n : ℕ → ℕ) (hx : ∀ g : Fin 181, x (ix1 g) = BitVec.ofNat 32 (n g.val))

include hx in
theorem sums_at (g : Fin 181) : sums x (ix1 g) = BitVec.ofNat 32 (first n (g.val + 1)) := by
  refine (cumsum1 (by decide) _ n hx _ rfl _ _ g).trans ?_
  rw [list_sum_range]

include hx in
/-- The padded ends. -/
theorem ends_at (g : Fin 256) : row (sums x) 16290#32 (ix2 0 g) = BitVec.ofNat 32 (en n g.val) := by
  rw [row_at]
  unfold en
  by_cases h : g.val < 181
  · rw [dif_pos h, if_pos h, sums_at x n hx]
  · rw [dif_neg h, if_neg h]

include hx in
/-- The padded starts. -/
theorem starts_at (g : Fin 256) : row (subi (sums x) x) 1073741824#32 (ix2 0 g) = BitVec.ofNat 32 (st n g.val) := by
  rw [row_at]
  unfold st
  by_cases h : g.val < 181
  · rw [dif_pos h, if_pos h]
    show sums x (ix1 _) - x (ix1 _) = _
    rw [sums_at x n hx, hx, first_succ, BitVec.ofNat_add, BitVec.add_sub_cancel]
  · rw [dif_neg h, if_neg h]

include hx in
/-- The padded lengths. -/
theorem lengths_at (g : Fin 256) (h : g.val < 181) : row x 0#32 (ix2 0 g) = BitVec.ofNat 32 (n g.val) := by
  rw [row_at, dif_pos h, hx]

end Words

/-! ## The arrays the region finds -/

variable (m : (ℓ : Loc nD τ sig) → Buf (Elt Ideal) ℓ) (c : Dev nD)

theorem V_ends : V m c main_v3 = row (sums (m ((c : Thread nD τ).loc main_arg2))) 16290#32 := by
  show StableHlo.after (List.flatten [hostOps0, hostOps0_1, hostOps0_2, hostOps0_3, hostOps0_4, hostOps0_5, hostOps0_6, hostOps0_7]) _ (Proc.devRef .tc main_v3) = _
  simp only [hostOps0, hostOps0_1, hostOps0_2, hostOps0_3, hostOps0_4, hostOps0_5, hostOps0_6, hostOps0_7, List.flatten_cons, List.flatten_nil, List.append_nil, List.cons_append, List.nil_append]
  after_results
  simp -implicitDefEqProofs only [StableHlo.TRef.toBuf, StableHlo.TRef.ofBuf, cast_cast, cast_eq]
  rfl
theorem V_starts : V m c main_v5 = row (subi (sums (m ((c : Thread nD τ).loc main_arg2))) (m ((c : Thread nD τ).loc main_arg2))) 1073741824#32 := by
  show StableHlo.after (List.flatten [hostOps0, hostOps0_1, hostOps0_2, hostOps0_3, hostOps0_4, hostOps0_5, hostOps0_6, hostOps0_7]) _ (Proc.devRef .tc main_v5) = _
  simp only [hostOps0, hostOps0_1, hostOps0_2, hostOps0_3, hostOps0_4, hostOps0_5, hostOps0_6, hostOps0_7, List.flatten_cons, List.flatten_nil, List.append_nil, List.cons_append, List.nil_append]
  after_results
  simp -implicitDefEqProofs only [StableHlo.TRef.toBuf, StableHlo.TRef.ofBuf, cast_cast, cast_eq]
  rfl
theorem V_lengths : V m c main_v7 = row (m ((c : Thread nD τ).loc main_arg2)) 0#32 := by
  show StableHlo.after (List.flatten [hostOps0, hostOps0_1, hostOps0_2, hostOps0_3, hostOps0_4, hostOps0_5, hostOps0_6, hostOps0_7]) _ (Proc.devRef .tc main_v7) = _
  simp only [hostOps0, hostOps0_1, hostOps0_2, hostOps0_3, hostOps0_4, hostOps0_5, hostOps0_6, hostOps0_7, List.flatten_cons, List.flatten_nil, List.append_nil, List.cons_append, List.nil_append]
  after_results
  rfl
theorem V_weight : V m c main_v8 = shapeCast S1x256 (m ((c : Thread nD τ).loc main_arg3)) shapeCasts_S256_S1x256 := by
  show StableHlo.after (List.flatten [hostOps0, hostOps0_1, hostOps0_2, hostOps0_3, hostOps0_4, hostOps0_5, hostOps0_6, hostOps0_7]) _ (Proc.devRef .tc main_v8) = _
  simp only [hostOps0, hostOps0_1, hostOps0_2, hostOps0_3, hostOps0_4, hostOps0_5, hostOps0_6, hostOps0_7, List.flatten_cons, List.flatten_nil, List.append_nil, List.cons_append, List.nil_append]
  after_results
  rfl
theorem V_bias : V m c main_v9 = shapeCast S1x256 (m ((c : Thread nD τ).loc main_arg4)) shapeCasts_S256_S1x256 := by
  show StableHlo.after (List.flatten [hostOps0, hostOps0_1, hostOps0_2, hostOps0_3, hostOps0_4, hostOps0_5, hostOps0_6, hostOps0_7]) _ (Proc.devRef .tc main_v9) = _
  simp only [hostOps0, hostOps0_1, hostOps0_2, hostOps0_3, hostOps0_4, hostOps0_5, hostOps0_6, hostOps0_7, List.flatten_cons, List.flatten_nil, List.append_nil, List.cons_append, List.nil_append]
  after_results
  rfl
theorem V_turned : V m c main_v10 = transpose S3x16290x256 [1, 0, 2] (m ((c : Thread nD τ).loc main_arg1)) transposes_S16290x3x256_S3x16290x256_1_0_2 := by
  show StableHlo.after (List.flatten [hostOps0, hostOps0_1, hostOps0_2, hostOps0_3, hostOps0_4, hostOps0_5, hostOps0_6, hostOps0_7]) _ (Proc.devRef .tc main_v10) = _
  simp only [hostOps0, hostOps0_1, hostOps0_2, hostOps0_3, hostOps0_4, hostOps0_5, hostOps0_6, hostOps0_7, List.flatten_cons, List.flatten_nil, List.append_nil, List.cons_append, List.nil_append]
  after_results

theorem weight_at (l : Fin 256) : V m c main_v8 (ix2 0 l) = m ((c : Thread nD τ).loc main_arg3) (ix1 l) := by
  rw [V_weight]
  exact shapeCast_a_1a_apply _ _ _ _
theorem bias_at (l : Fin 256) : V m c main_v9 (ix2 0 l) = m ((c : Thread nD τ).loc main_arg4) (ix1 l) := by
  rw [V_bias]
  exact shapeCast_a_1a_apply _ _ _ _
theorem turned_at (a : Fin 3) (r : Fin 16290) (l : Fin 256) : V m c main_v10 (ix3 a r l) = m ((c : Thread nD τ).loc main_arg1) (ix3 r a l) :=
  (congrFun (V_turned m c) _).trans (transpose_apply _ _ _ _ (ix3 r a l) fun b => by fin_cases b <;> rfl)

end Cert.KernelIdeal.HostRows

end
-- ==== Proof.KernelBlocks.lean ====
/- The blocks the kernel's windows read at a grid point, row by row: the padded words whole at every point, and of the scalars and
   vectors the rows 1024 t ‥ 1024 t + 1023 that exist. -/
module

public import proofs.«01_k».proof.Proof.KernelHost
public import Idealize.ShloMosaic.Lib.Pipeline.ValueKit

@[expose] public section

set_option maxRecDepth 16384

noncomputable section

namespace Cert.KernelIdeal.Blocks

open Cert.KernelIdeal Cert.KernelIdeal.Gen Cert.Segments Cert.Spec Cert.KernelIdeal.Point
open Idealize.ShloMosaic Idealize.ShloMosaic.TcCoe
open Idealize.ShloMosaic.Pipeline

/-! ## Where the windows are -/

theorem index_0 : ∀ t : Fin cfg0.N, win0_0.index t = ![0, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, t.val < 16 → win0_3.index t = ![t.val % 16, 0] := by decide +kernel
theorem index_4 : ∀ t : Fin cfg0.N, t.val < 16 → win0_4.index t = ![0, t.val % 16, 0] := by decide +kernel
theorem index_5 : ∀ t : Fin cfg0.N, win0_5.index t = ![0, 0] := by decide +kernel
theorem index_6 : ∀ t : Fin cfg0.N, win0_6.index t = ![0, 0] := by decide +kernel
theorem index_7 : ∀ t : Fin cfg0.N, 16 ≤ t.val → win0_7.index t = ![t.val % 16, 0] := by decide +kernel
theorem index_8 : ∀ t : Fin cfg0.N, 16 ≤ t.val → win0_8.index t = ![0, t.val % 16, 0] := by decide +kernel

/-- How much of a block of 1024 rows lies in an array of 16290. -/
theorem xsize_3 : ∀ t : Fin cfg0.N, t.val < 16 → win0_3.xsize (grid0.coords t) = ![min 1024 (16290 - 1024 * (t.val % 16)), 256] := by decide +kernel
theorem xsize_4 : ∀ t : Fin cfg0.N, t.val < 16 → win0_4.xsize (grid0.coords t) = ![3, min 1024 (16290 - 1024 * (t.val % 16)), 256] := by decide +kernel
theorem xsize_7 : ∀ t : Fin cfg0.N, 16 ≤ t.val → win0_7.xsize (grid0.coords t) = ![min 1024 (16290 - 1024 * (t.val % 16)), 256] := by decide +kernel
theorem xsize_8 : ∀ t : Fin cfg0.N, 16 ≤ t.val → win0_8.xsize (grid0.coords t) = ![3, min 1024 (16290 - 1024 * (t.val % 16)), 256] := by decide +kernel

variable (m : (ℓ : Loc nD τ sig) → Buf (Elt Ideal) ℓ) (c : Dev nD) (t : Fin cfg0.N)

/-! ## The windows that hold their whole array -/

theorem whole_0 (l : Fin 256) : iblk m c 0 t (ix2 0 l) = V m c main_v5 (ValueIdx.ix2 0 l) := by
  have e := index_0 t
  blk_ext [iblk, e]
theorem whole_1 (l : Fin 256) : iblk m c 1 t (ix2 0 l) = V m c main_v3 (ValueIdx.ix2 0 l) := by
  have e := index_1 t
  blk_ext [iblk, e]
theorem whole_2 (l : Fin 256) : iblk m c 2 t (ix2 0 l) = V m c main_v7 (ValueIdx.ix2 0 l) := by
  have e := index_2 t
  blk_ext [iblk, e]
theorem whole_5 (l : Fin 256) : iblk m c 5 t (ix2 0 l) = V m c main_v8 (ValueIdx.ix2 0 l) := by
  have e := index_5 t
  blk_ext [iblk, e]
theorem whole_6 (l : Fin 256) : iblk m c 6 t (ix2 0 l) = V m c main_v9 (ValueIdx.ix2 0 l) := by
  have e := index_6 t
  blk_ext [iblk, e]

/-- The lengths of the segments as numbers. -/
def num (g : ℕ) : ℕ := if h : g < 181 then (m ((c : Thread nD τ).loc main_arg2) (ValueIdx.ix1 ⟨g, h⟩)).toNat else 0

theorem num_word (g : Fin 181) : m ((c : Thread nD τ).loc main_arg2) (ValueIdx.ix1 g) = BitVec.ofNat 32 (num m c g.val) := by
  unfold num
  rw [dif_pos g.isLt]
  show _ = BitVec.ofNat 32 (BitVec.toNat (w := 32) _)
  rw [BitVec.ofNat_toNat, BitVec.setWidth_eq]

/-- The first two windows hold the padded starts and ends. -/
theorem bounds : Bounds (num m c) (iblk m c 0 t) (iblk m c 1 t) :=
  ⟨fun g => (whole_0 m c t g).trans ((congrFun (HostRows.V_starts m c) _).trans (HostRows.starts_at _ _ (num_word m c) g)),
   fun g => (whole_1 m c t g).trans ((congrFun (HostRows.V_ends m c) _).trans (HostRows.ends_at _ _ (num_word m c) g))⟩
/-- The third holds the lengths. -/
theorem lengths (g : Fin 256) (h : g.val < 181) : iblk m c 2 t (ix2 0 g) = BitVec.ofNat 32 (num m c g.val) :=
  (whole_2 m c t g).trans ((congrFun (HostRows.V_lengths m c) _).trans (HostRows.lengths_at _ _ (num_word m c) g h))
/-- The weight's row. -/
theorem weight (l : Fin 256) : iblk m c 5 t (ix2 0 l) = m ((c : Thread nD τ).loc main_arg3) (ValueIdx.ix1 l) :=
  (whole_5 m c t l).trans (HostRows.weight_at m c l)
/-- The bias's row. -/
theorem bias (l : Fin 256) : iblk m c 6 t (ix2 0 l) = m ((c : Thread nD τ).loc main_arg4) (ValueIdx.ix1 l) :=
  (whole_6 m c t l).trans (HostRows.bias_at m c l)

/-! ## The windows that move -/

theorem moved_3 (h16 : t.val < 16) (p : Fin 1024) (l : Fin 256) (hR : 1024 * (t.val % 16) + p.val < 16290) :
    (cfg0.win 3).moved (cfg0.grid.coords t) (ix2 p l) = true := by
  rw [Window.moved_iff]
  intro a
  show _ < win0_3.xsize (grid0.coords t) a
  rw [xsize_3 t h16]
  fin_cases a
  · show p.val < min 1024 (16290 - 1024 * (t.val % 16))
    omega
  · exact l.isLt
theorem moved_4 (h16 : t.val < 16) (a : Fin 3) (p : Fin 1024) (l : Fin 256) (hR : 1024 * (t.val % 16) + p.val < 16290) :
    (cfg0.win 4).moved (cfg0.grid.coords t) (ix3 a p l) = true := by
  rw [Window.moved_iff]
  intro b
  show _ < win0_4.xsize (grid0.coords t) b
  rw [xsize_4 t h16]
  fin_cases b
  · exact a.isLt
  · show p.val < min 1024 (16290 - 1024 * (t.val % 16))
    omega
  · exact l.isLt

/-- The fourth window's rows that exist, whatever the rest of the buffer holds. -/
theorem rows_3 (h16 : t.val < 16) (d : (cfg0.win 3).block.Idx → Elt Ideal .f32) :
    Rows2 (rows2 (m ((c : Thread nD τ).loc main_arg0))) (t.val % 16) ((cfg0.win 3).fill (cfg0.grid.coords t) d (iblk m c 3 t)) := by
  intro p l hR
  have e := index_3 t h16
  unfold Window.fill
  rw [dif_pos (moved_3 t h16 p l hR)]
  refine Eq.trans ?_ ((congrFun (V_main_arg0 m c) (ix2 ⟨_, hR⟩ l)).trans (rows2_fin _ ⟨_, hR⟩ l).symm)
  blk_ext [iblk, e]
/-- The fifth window's. -/
theorem rows_4 (h16 : t.val < 16) (d : (cfg0.win 4).block.Idx → Elt Ideal .f32) :
    Rows3 (rows3 (m ((c : Thread nD τ).loc main_arg1))) (t.val % 16) ((cfg0.win 4).fill (cfg0.grid.coords t) d (iblk m c 4 t)) := by
  intro a p l hR
  have e := index_4 t h16
  unfold Window.fill
  rw [dif_pos (moved_4 t h16 a p l hR)]
  refine Eq.trans ?_ ((HostRows.turned_at m c a ⟨_, hR⟩ l).trans ((congrArg _ (ix3_eq_valueIdx _ _ _).symm).trans (rows3_fin _ ⟨_, hR⟩ a l).symm))
  blk_ext [iblk, e]

end Cert.KernelIdeal.Blocks

end
-- ==== Proof.KernelIdealTrack.lean ====
/-
  The run of the idealized program, naming what it computes: while the accumulators are filled the scratch holds the sums and rows so
  far, at the point that writes the table it holds the table, and each later point writes its block of the two results.
-/
module

public import proofs.«01_k».proof.Proof.KernelIdealRun
public import proofs.«01_k».proof.Proof.KernelBlocks

@[expose] public section

set_option maxRecDepth 16384

noncomputable section

namespace Cert.KernelIdeal.Track

open Cert.KernelIdeal Cert.KernelIdeal.Gen Cert.KernelIdeal.Body Cert.KernelIdeal.Run Cert.KernelIdeal.Blocks Cert.KernelIdeal.State
open Cert.Segments Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-! ## What the arguments hold, and the results -/

abbrev sR (c : Dev nD) : ℕ → Fin 256 → EReal := rows2 (m ((c : Thread nD τ).loc main_arg0))
abbrev vR (c : Dev nD) : ℕ → Fin 3 → Fin 256 → EReal := rows3 (m ((c : Thread nD τ).loc main_arg1))
abbrev wR (c : Dev nD) : Fin 256 → EReal := fun l => m ((c : Thread nD τ).loc main_arg3) (ValueIdx.ix1 l)
abbrev bR (c : Dev nD) : Fin 256 → EReal := fun l => m ((c : Thread nD τ).loc main_arg4) (ValueIdx.ix1 l)

/-- The first result's entry at row `R` and column `l`. -/
def res1 (c : Dev nD) (R : ℕ) (l : Fin 256) : EReal := Spec.out1 (num m c) (sR m c) (wR m c) (bR m c) R l
/-- The second result's entry at row `R`, axis `a` and column `l`. -/
def res2 (c : Dev nD) (a : Fin 3) (R : ℕ) (l : Fin 256) : EReal := Spec.out2 (num m c) (vR m c) R a l

/-- What the run needs of the arguments: the lengths add up to the number of rows, and every scalar is a real number. -/
structure Good : Prop where
  total : ∀ c, first (num m c) 181 = 16290
  real : ∀ c, ∃ y : ℕ → Fin 256 → ℝ, ∀ r l, sR m c r l = (y r l : EReal)

theorem Good.small {m} (h : Good m) (c : Dev nD) (g : ℕ) (hg : g < 181) : num m c g < 2 ^ 31 := by
  have h1 := first_succ (num m c) g
  have h2 := first_mono (num m c) (show g + 1 ≤ 181 from hg)
  have h3 := h.total c
  omega

/-! ## The proof data -/

/-- The six scratch buffers at given contents. -/
def scratch (c : Dev nD) (a1 a2 a3 : Vec Ideal S256x256 .f32) (g : Vec Ideal S256x640 .f32) (k1 : Vec Ideal S16384x256 .bf16) (k2 : Vec Ideal S3x16384x256 .bf16) : sProp 𝕄 :=
  iprop(owns (c : Thread nD τ) (Memref.whole cc0_scratch0) fullShare a1 ∗ owns (c : Thread nD τ) (Memref.whole cc0_scratch1) fullShare a2 ∗ owns (c : Thread nD τ) (Memref.whole cc0_scratch2) fullShare a3
    ∗ owns (c : Thread nD τ) (Memref.whole cc0_scratch3) fullShare g ∗ owns (c : Thread nD τ) (Memref.whole cc0_scratch4) fullShare k1 ∗ owns (c : Thread nD τ) (Memref.whole cc0_scratch5) fullShare k2)

/-- The scratch after `T` points. -/
def held (c : Dev nD) (T : ℕ) : sProp 𝕄 :=
  iprop((∃ a1 a2 a3 g k1 k2, ⌜Inv (num m c) (sR m c) (vR m c) T a1 a2 a3 g k1 k2⌝ ∗ scratch c a1 a2 a3 g k1 k2) ∗ ∃ r, prngReg c r)

/-- The proof data: the input windows keep their blocks, the output windows hold the results' rows. -/
def dats (_ : Fin 1) (c : Dev nD) : Dat τ (Elt Ideal) Unit ℕ (UR sig nD τ) ℕ cfg0 c where
  A := fun w => V m c (Pipeline.arrRef spec0 w)
  after := fun w t => match w with
    | ⟨0, _⟩ => iblk m c 0 t
    | ⟨1, _⟩ => iblk m c 1 t
    | ⟨2, _⟩ => iblk m c 2 t
    | ⟨3, _⟩ => (cfg0.win 3).fill (cfg0.grid.coords t) (fun _ => Classical.choice inferInstance) (iblk m c 3 t)
    | ⟨4, _⟩ => (cfg0.win 4).fill (cfg0.grid.coords t) (fun _ => Classical.choice inferInstance) (iblk m c 4 t)
    | ⟨5, _⟩ => iblk m c 5 t
    | ⟨6, _⟩ => iblk m c 6 t
    | ⟨7, _⟩ => fun y : S1024x256.Idx => res1 m c (1024 * (t.val % 16) + (y 0).val) (y 1)
    | ⟨8, _⟩ => fun y : S3x1024x256.Idx => res2 m c (y 0) (1024 * (t.val % 16) + (y 1).val) (y 2)
  Φ := fun t => held m c t.val
  q := fun _ => fullShare
  owed := fun _ => 0

theorem before_3 (c : Dev nD) (t) (d) : (dats m 0 c).before 3 t d = (cfg0.win 3).fill (cfg0.grid.coords t) d (iblk m c 3 t) :=
  (dats m 0 c).before_in_eq_fetched 3 rfl (fun _ => rfl) (by decide +kernel) (fun t => (cfg0.win 3).cut_fill _ _ _) t d
theorem before_4 (c : Dev nD) (t) (d) : (dats m 0 c).before 4 t d = (cfg0.win 4).fill (cfg0.grid.coords t) d (iblk m c 4 t) :=
  (dats m 0 c).before_in_eq_fetched 4 rfl (fun _ => rfl) (by decide +kernel) (fun t => (cfg0.win 4).cut_fill _ _ _) t d

/-! ## The outputs' blocks -/

/-- Two blocks of the first result that agree on the rows that exist agree on what is written back. -/
theorem cut_7 (t : Fin cfg0.N) (h16 : 16 ≤ t.val) (X Y : S1024x256.Idx → EReal)
    (h : ∀ (p : Fin 1024) (l : Fin 256), 1024 * (t.val % 16) + p.val < 16290 → X (ix2 p l) = Y (ix2 p l)) :
    (cfg0.win 7).cut (cfg0.grid.coords t) X = (cfg0.win 7).cut (cfg0.grid.coords t) Y := by
  funext j
  have hx := xsize_7 t h16
  have h0 : (j (0 : Fin 2)).val < min 1024 (16290 - 1024 * (t.val % 16)) := lt_of_lt_of_eq (j (0 : Fin 2)).isLt (congrFun hx 0)
  have h1 : (j (1 : Fin 2)).val < 256 := lt_of_lt_of_eq (j (1 : Fin 2)).isLt (congrFun hx 1)
  have e : (cfg0.win 7).xinj (cfg0.grid.coords t) j = ix2 (⟨(j (0 : Fin 2)).val, by omega⟩ : Fin 1024) (⟨(j (1 : Fin 2)).val, h1⟩ : Fin 256) :=
    funext fun a => by fin_cases a <;> rfl
  show X ((cfg0.win 7).xinj (cfg0.grid.coords t) j) = Y ((cfg0.win 7).xinj (cfg0.grid.coords t) j)
  rw [e]
  exact h _ _ (by show 1024 * (t.val % 16) + (j (0 : Fin 2)).val < 16290; omega)
/-- Likewise of the second. -/
theorem cut_8 (t : Fin cfg0.N) (h16 : 16 ≤ t.val) (X Y : S3x1024x256.Idx → EReal)
    (h : ∀ (a : Fin 3) (p : Fin 1024) (l : Fin 256), 1024 * (t.val % 16) + p.val < 16290 → X (ix3 a p l) = Y (ix3 a p l)) :
    (cfg0.win 8).cut (cfg0.grid.coords t) X = (cfg0.win 8).cut (cfg0.grid.coords t) Y := by
  funext j
  have hx := xsize_8 t h16
  have h0 : (j (0 : Fin 3)).val < 3 := lt_of_lt_of_eq (j (0 : Fin 3)).isLt (congrFun hx 0)
  have h1 : (j (1 : Fin 3)).val < min 1024 (16290 - 1024 * (t.val % 16)) := lt_of_lt_of_eq (j (1 : Fin 3)).isLt (congrFun hx 1)
  have h2 : (j (2 : Fin 3)).val < 256 := lt_of_lt_of_eq (j (2 : Fin 3)).isLt (congrFun hx 2)
  have e : (cfg0.win 8).xinj (cfg0.grid.coords t) j
      = ix3 (⟨(j (0 : Fin 3)).val, h0⟩ : Fin 3) (⟨(j (1 : Fin 3)).val, by omega⟩ : Fin 1024) (⟨(j (2 : Fin 3)).val, h2⟩ : Fin 256) :=
    funext fun a => by fin_cases a <;> rfl
  show X ((cfg0.win 8).xinj (cfg0.grid.coords t) j) = Y ((cfg0.win 8).xinj (cfg0.grid.coords t) j)
  rw [e]
  exact h _ _ _ (by show 1024 * (t.val % 16) + (j (1 : Fin 3)).val < 16290; omega)

/-! ## One grid point -/

theorem keep_3 (c : Dev nD) (t : Fin cfg0.N) (d) : (cfg0.win 3).fill (cfg0.grid.coords t) d ((cfg0.win 3).cut (cfg0.grid.coords t) ((dats m 0 c).after 3 t))
    = (cfg0.win 3).fill (cfg0.grid.coords t) d (iblk m c 3 t) :=
  congrArg ((cfg0.win 3).fill (cfg0.grid.coords t) d) ((cfg0.win 3).cut_fill _ _ _)
theorem keep_4 (c : Dev nD) (t : Fin cfg0.N) (d) : (cfg0.win 4).fill (cfg0.grid.coords t) d ((cfg0.win 4).cut (cfg0.grid.coords t) ((dats m 0 c).after 4 t))
    = (cfg0.win 4).fill (cfg0.grid.coords t) d (iblk m c 4 t) :=
  congrArg ((cfg0.win 4).fill (cfg0.grid.coords t) d) ((cfg0.win 4).cut_fill _ _ _)

set_option maxHeartbeats 2000000 in
/-- A point of the first sixteen: the scratch goes from what it holds after `t` points to what it holds after `t + 1`. -/
theorem sound_fill (hG : Good m) (c : Dev nD) (t : Fin cfg0.N) (h16 : t.val < 16) :
    iprop(held m c t.val ∗ (dats m 0 c).owesAt () t.castSucc
        ∗ (∃ d, owns (c : Thread nD τ) ((cfg0.win 0).stage (cfg0.slots t 0)) fullShare ((dats m 0 c).before 0 t d))
        ∗ (∃ d, owns (c : Thread nD τ) ((cfg0.win 1).stage (cfg0.slots t 1)) fullShare ((dats m 0 c).before 1 t d))
        ∗ (∃ d, owns (c : Thread nD τ) ((cfg0.win 2).stage (cfg0.slots t 2)) fullShare ((dats m 0 c).before 2 t d))
        ∗ (∃ d, owns (c : Thread nD τ) ((cfg0.win 3).stage (cfg0.slots t 3)) fullShare ((dats m 0 c).before 3 t d))
        ∗ (∃ d, owns (c : Thread nD τ) ((cfg0.win 4).stage (cfg0.slots t 4)) fullShare ((dats m 0 c).before 4 t d))
        ∗ (∃ d, owns (c : Thread nD τ) ((cfg0.win 5).stage (cfg0.slots t 5)) fullShare ((dats m 0 c).before 5 t d))
        ∗ (∃ d, owns (c : Thread nD τ) ((cfg0.win 6).stage (cfg0.slots t 6)) fullShare ((dats m 0 c).before 6 t d))
        ∗ (∃ d, owns (c : Thread nD τ) ((cfg0.win 7).stage (cfg0.slots t 7)) fullShare ((dats m 0 c).before 7 t d))
        ∗ (∃ d, owns (c : Thread nD τ) ((cfg0.win 8).stage (cfg0.slots t 8)) fullShare ((dats m 0 c).before 8 t d)))
      ⊢ wp frame (wpE (defs₀ (F := Ideal)) Variants.none c none) Set.univ (bodyAt0 t) fun _ =>
        iprop(held m c (t.val + 1) ∗ (dats m 0 c).owesAt () t.succ
          ∗ owns (c : Thread nD τ) ((cfg0.win 0).stage (cfg0.slots t 0)) fullShare ((dats m 0 c).after 0 t)
          ∗ owns (c : Thread nD τ) ((cfg0.win 1).stage (cfg0.slots t 1)) fullShare ((dats m 0 c).after 1 t)
          ∗ owns (c : Thread nD τ) ((cfg0.win 2).stage (cfg0.slots t 2)) fullShare ((dats m 0 c).after 2 t)
          ∗ (∃ d, owns (c : Thread nD τ) ((cfg0.win 3).stage (cfg0.slots t 3)) fullShare ((cfg0.win 3).fill (cfg0.grid.coords t) d ((cfg0.win 3).cut (cfg0.grid.coords t) ((dats m 0 c).after 3 t))))
          ∗ (∃ d, owns (c : Thread nD τ) ((cfg0.win 4).stage (cfg0.slots t 4)) fullShare ((cfg0.win 4).fill (cfg0.grid.coords t) d ((cfg0.win 4).cut (cfg0.grid.coords t) ((dats m 0 c).after 4 t))))
          ∗ owns (c : Thread nD τ) ((cfg0.win 5).stage (cfg0.slots t 5)) fullShare ((dats m 0 c).after 5 t)
          ∗ owns (c : Thread nD τ) ((cfg0.win 6).stage (cfg0.slots t 6)) fullShare ((dats m 0 c).after 6 t)
          ∗ (∃ d, owns (c : Thread nD τ) ((cfg0.win 7).stage (cfg0.slots t 7)) fullShare ((dats m 0 c).before 7 t d))
          ∗ (∃ d, owns (c : Thread nD τ) ((cfg0.win 8).stage (cfg0.slots t 8)) fullShare ((dats m 0 c).before 8 t d))) := by
  rw [show (dats m 0 c).owesAt () t.succ = (dats m 0 c).owesAt () t.castSucc from rfl]
  unfold held scratch
  iintro ⟨⟨⟨%a1, %a2, %a3, %g, %k1, %k2, %hI, A1, A2, A3, G, K1, K2⟩, R⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0_of m (dats m 0 c) rfl (fun _ => rfl), before0_1_of m (dats m 0 c) rfl (fun _ => rfl), before0_2_of m (dats m 0 c) rfl (fun _ => rfl),
    before_3, before_4, before0_5_of m (dats m 0 c) rfl (fun _ => rfl), before0_6_of m (dats m 0 c) rfl (fun _ => rfl)]
  unfold bodyAt0
  have c2 := (cond2_iff t).mpr h16
  have c4 : ¬ k0_cond4 (grid0.coords t) = 1#1 := fun h => absurd ((cond4_iff t).mp h) (by omega)
  have hb := bounds m c t
  have h3 := rows_3 m c t h16 d3
  have h4 := rows_4 m c t h16 d4
  by_cases h0 : t.val = 0
  · have c1 := (isFirst_iff t).mpr h0
    have c3 : ¬ isLast (grid0.coords t) := fun h => absurd ((isLast_iff t).mp h) (by omega)
    iapply (firstRun c _ _ _ _ _ _ _ _ _ _ _ _ _ _ _ _ _ _ _ _ _ _ _ _ _ _ _ _ _ _ _ (iblk m c 0 t) (iblk m c 1 t) ((cfg0.win 3).fill (cfg0.grid.coords t) d3 (iblk m c 3 t)) ((cfg0.win 4).fill (cfg0.grid.coords t) d4 (iblk m c 4 t)) a1 a2 a3 k1 k2 c1 c2 c3 c4 _)
    isplitl [H0 H1 H3 H4 A1 A2 A3 K1 K2]
    · unfold accState
      iframe
    unfold accState
    iintro ⟨H0, H1, H3, H4, A1, A2, A3, K1, K2⟩
    isplitl [A1 A2 A3 G K1 K2 R]
    · isplitl [A1 A2 A3 G K1 K2]
      · iexists _, _, _, _, _, _
        isplitr
        · ipureintro
          exact inv_first (hG.total c) hb t h3 h4 h0 hI
        iframe
      iexact R
    isplitl [Ho]; · iexact Ho
    isplitl [H0]; · iexact H0
    isplitl [H1]; · iexact H1
    isplitl [H2]; · iexact H2
    isplitl [H3]; · iexists d3; rw [keep_3]; iexact H3
    isplitl [H4]; · iexists d4; rw [keep_4]; iexact H4
    isplitl [H5]; · iexact H5
    isplitl [H6]; · iexact H6
    isplitl [H7]; · iexists d7; iexact H7
    iexists d8; iexact H8
  have c1 : ¬ isFirst (grid0.coords t) := fun h => absurd ((isFirst_iff t).mp h) h0
  by_cases h15 : t.val = 15
  · have c3 := (isLast_iff t).mpr h15
    iapply (lastRun c _ _ _ _ _ _ _ _ _ _ _ _ _ _ _ _ _ _ _ _ _ _ _ _ _ _ _ _ _ _ _ (iblk m c 0 t) (iblk m c 1 t) (iblk m c 2 t) ((cfg0.win 3).fill (cfg0.grid.coords t) d3 (iblk m c 3 t)) ((cfg0.win 4).fill (cfg0.grid.coords t) d4 (iblk m c 4 t)) a1 a2 a3 g k1 k2 c1 c2 c3 c4 _)
    isplitl [H0 H1 H3 H4 A1 A2 A3 K1 K2]
    · unfold accState
      iframe
    isplitl [H2]; · iexact H2
    isplitl [G]; · iexact G
    unfold accState
    iintro ⟨⟨H0, H1, H3, H4, A1, A2, A3, K1, K2⟩, H2, G⟩
    isplitl [A1 A2 A3 G K1 K2 R]
    · isplitl [A1 A2 A3 G K1 K2]
      · iexists _, _, _, _, _, _
        isplitr
        · ipureintro
          exact inv_last (hG.total c) hb t h3 h4 (lengths m c t) (hG.small c) h15 hI
        iframe
      iexact R
    isplitl [Ho]; · iexact Ho
    isplitl [H0]; · iexact H0
    isplitl [H1]; · iexact H1
    isplitl [H2]; · iexact H2
    isplitl [H3]; · iexists d3; rw [keep_3]; iexact H3
    isplitl [H4]; · iexists d4; rw [keep_4]; iexact H4
    isplitl [H5]; · iexact H5
    isplitl [H6]; · iexact H6
    isplitl [H7]; · iexists d7; iexact H7
    iexists d8; iexact H8
  have c3 : ¬ isLast (grid0.coords t) := fun h => absurd ((isLast_iff t).mp h) h15
  iapply (midRun c _ _ _ _ _ _ _ _ _ _ _ _ _ _ _ _ _ _ _ _ _ _ _ _ _ _ _ _ _ _ _ (iblk m c 0 t) (iblk m c 1 t) ((cfg0.win 3).fill (cfg0.grid.coords t) d3 (iblk m c 3 t)) ((cfg0.win 4).fill (cfg0.grid.coords t) d4 (iblk m c 4 t)) a1 a2 a3 k1 k2 c1 c2 c3 c4 _)
  isplitl [H0 H1 H3 H4 A1 A2 A3 K1 K2]
  · unfold accState
    iframe
  unfold accState
  iintro ⟨H0, H1, H3, H4, A1, A2, A3, K1, K2⟩
  isplitl [A1 A2 A3 G K1 K2 R]
  · isplitl [A1 A2 A3 G K1 K2]
    · iexists _, _, _, _, _, _
      isplitr
      · ipureintro
        exact inv_mid (hG.total c) hb t h3 h4 h0 (by omega) hI
      iframe
    iexact R
  isplitl [Ho]; · iexact Ho
  isplitl [H0]; · iexact H0
  isplitl [H1]; · iexact H1
  isplitl [H2]; · iexact H2
  isplitl [H3]; · iexists d3; rw [keep_3]; iexact H3
  isplitl [H4]; · iexists d4; rw [keep_4]; iexact H4
  isplitl [H5]; · iexact H5
  isplitl [H6]; · iexact H6
  isplitl [H7]; · iexists d7; iexact H7
  iexists d8; iexact H8

set_option maxHeartbeats 2000000 in
/-- A point of the last sixteen: the scratch is kept, and the two output windows get their rows of the results. -/
theorem sound_apply (hG : Good m) (c : Dev nD) (t : Fin cfg0.N) (h16 : 16 ≤ t.val) :
    iprop(held m c t.val ∗ (dats m 0 c).owesAt () t.castSucc
        ∗ (∃ d, owns (c : Thread nD τ) ((cfg0.win 0).stage (cfg0.slots t 0)) fullShare ((dats m 0 c).before 0 t d))
        ∗ (∃ d, owns (c : Thread nD τ) ((cfg0.win 1).stage (cfg0.slots t 1)) fullShare ((dats m 0 c).before 1 t d))
        ∗ (∃ d, owns (c : Thread nD τ) ((cfg0.win 2).stage (cfg0.slots t 2)) fullShare ((dats m 0 c).before 2 t d))
        ∗ (∃ d, owns (c : Thread nD τ) ((cfg0.win 3).stage (cfg0.slots t 3)) fullShare ((dats m 0 c).before 3 t d))
        ∗ (∃ d, owns (c : Thread nD τ) ((cfg0.win 4).stage (cfg0.slots t 4)) fullShare ((dats m 0 c).before 4 t d))
        ∗ (∃ d, owns (c : Thread nD τ) ((cfg0.win 5).stage (cfg0.slots t 5)) fullShare ((dats m 0 c).before 5 t d))
        ∗ (∃ d, owns (c : Thread nD τ) ((cfg0.win 6).stage (cfg0.slots t 6)) fullShare ((dats m 0 c).before 6 t d))
        ∗ (∃ d, owns (c : Thread nD τ) ((cfg0.win 7).stage (cfg0.slots t 7)) fullShare ((dats m 0 c).before 7 t d))
        ∗ (∃ d, owns (c : Thread nD τ) ((cfg0.win 8).stage (cfg0.slots t 8)) fullShare ((dats m 0 c).before 8 t d)))
      ⊢ wp frame (wpE (defs₀ (F := Ideal)) Variants.none c none) Set.univ (bodyAt0 t) fun _ =>
        iprop(held m c (t.val + 1) ∗ (dats m 0 c).owesAt () t.succ
          ∗ owns (c : Thread nD τ) ((cfg0.win 0).stage (cfg0.slots t 0)) fullShare ((dats m 0 c).after 0 t)
          ∗ owns (c : Thread nD τ) ((cfg0.win 1).stage (cfg0.slots t 1)) fullShare ((dats m 0 c).after 1 t)
          ∗ owns (c : Thread nD τ) ((cfg0.win 2).stage (cfg0.slots t 2)) fullShare ((dats m 0 c).after 2 t)
          ∗ (∃ d, owns (c : Thread nD τ) ((cfg0.win 3).stage (cfg0.slots t 3)) fullShare ((cfg0.win 3).fill (cfg0.grid.coords t) d ((cfg0.win 3).cut (cfg0.grid.coords t) ((dats m 0 c).after 3 t))))
          ∗ (∃ d, owns (c : Thread nD τ) ((cfg0.win 4).stage (cfg0.slots t 4)) fullShare ((cfg0.win 4).fill (cfg0.grid.coords t) d ((cfg0.win 4).cut (cfg0.grid.coords t) ((dats m 0 c).after 4 t))))
          ∗ owns (c : Thread nD τ) ((cfg0.win 5).stage (cfg0.slots t 5)) fullShare ((dats m 0 c).after 5 t)
          ∗ owns (c : Thread nD τ) ((cfg0.win 6).stage (cfg0.slots t 6)) fullShare ((dats m 0 c).after 6 t)
          ∗ (∃ d, owns (c : Thread nD τ) ((cfg0.win 7).stage (cfg0.slots t 7)) fullShare ((cfg0.win 7).fill (cfg0.grid.coords t) d ((cfg0.win 7).cut (cfg0.grid.coords t) ((dats m 0 c).after 7 t))))
          ∗ (∃ d, owns (c : Thread nD τ) ((cfg0.win 8).stage (cfg0.slots t 8)) fullShare ((cfg0.win 8).fill (cfg0.grid.coords t) d ((cfg0.win 8).cut (cfg0.grid.coords t) ((dats m 0 c).after 8 t))))) := by
  rw [show (dats m 0 c).owesAt () t.succ = (dats m 0 c).owesAt () t.castSucc from rfl]
  unfold held scratch
  iintro ⟨⟨⟨%a1, %a2, %a3, %g, %k1, %k2, %hI, A1, A2, A3, G, K1, K2⟩, R⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0_of m (dats m 0 c) rfl (fun _ => rfl), before0_1_of m (dats m 0 c) rfl (fun _ => rfl), before0_2_of m (dats m 0 c) rfl (fun _ => rfl),
    before_3, before_4, before0_5_of m (dats m 0 c) rfl (fun _ => rfl), before0_6_of m (dats m 0 c) rfl (fun _ => rfl)]
  unfold bodyAt0
  have c1 : ¬ isFirst (grid0.coords t) := fun h => absurd ((isFirst_iff t).mp h) (by omega)
  have c2 : ¬ k0_cond2 (grid0.coords t) = 1#1 := fun h => absurd ((cond2_iff t).mp h) (by omega)
  have c3 : ¬ isLast (grid0.coords t) := fun h => absurd ((isLast_iff t).mp h) (by omega)
  have c4 := (cond4_iff t).mpr h16
  have hb := bounds m c t
  obtain ⟨y, hy⟩ := hG.real c
  have e7 := (cfg0.win 7).fill_congr_cut (cfg0.grid.coords t) (cut_7 t h16 (Body.out1 (grid0.coords t) c4 (iblk m c 0 t) (iblk m c 1 t) (iblk m c 5 t) (iblk m c 6 t) g k1)
    ((dats m 0 c).after 7 t) (out1_at (hG.total c) hb t h16 c4 hI y hy (wR m c) (bR m c) (weight m c t) (bias m c t)))
  have e8 := (cfg0.win 8).fill_congr_cut (cfg0.grid.coords t) (cut_8 t h16 (Body.out2 (grid0.coords t) c4 (iblk m c 0 t) (iblk m c 1 t) g k2)
    ((dats m 0 c).after 8 t) (out2_at (hG.total c) hb t h16 c4 hI))
  iapply (applyRun c _ _ _ _ _ _ _ _ _ _ _ _ _ _ _ _ _ _ _ _ _ _ _ _ _ _ _ _ _ _ _ (iblk m c 0 t) (iblk m c 1 t) (iblk m c 5 t) (iblk m c 6 t) g k1 k2 c1 c2 c3 c4 _)
  isplitl [H0]; · iexact H0
  isplitl [H1]; · iexact H1
  isplitl [H5]; · iexact H5
  isplitl [H6]; · iexact H6
  isplitl [H7]; · iexists _; iexact H7
  isplitl [H8]; · iexists _; iexact H8
  isplitl [G]; · iexact G
  isplitl [K1]; · iexact K1
  isplitl [K2]; · iexact K2
  iintro ⟨H0, H1, H5, H6, H7, H8, G, K1, K2⟩
  isplitl [A1 A2 A3 G K1 K2 R]
  · isplitl [A1 A2 A3 G K1 K2]
    · iexists _, _, _, _, _, _
      isplitr
      · ipureintro
        exact inv_apply t h16 hI
      iframe
    iexact R
  isplitl [Ho]; · iexact Ho
  isplitl [H0]; · iexact H0
  isplitl [H1]; · iexact H1
  isplitl [H2]; · iexact H2
  isplitl [H3]; · iexists d3; rw [keep_3]; iexact H3
  isplitl [H4]; · iexists d4; rw [keep_4]; iexact H4
  isplitl [H5]; · iexact H5
  isplitl [H6]; · iexact H6
  isplitl [H7]
  · iexists (Body.out1 (grid0.coords t) c4 (iblk m c 0 t) (iblk m c 1 t) (iblk m c 5 t) (iblk m c 6 t) g k1)
    rw [e7]
    iexact H7
  iexists (Body.out2 (grid0.coords t) c4 (iblk m c 0 t) (iblk m c 1 t) g k2)
  rw [e8]
  iexact H8

/-! ## The body obligation and the run -/

/-- The two output windows are left alone at the first sixteen points: one condition for both. -/
theorem idle_7 : ∀ t : Fin cfg0.N, cfg0.idle 7 (cfg0.grid.coords t) = decide (t.val < 16) := by decide +kernel
theorem flush_7 : ∀ t : Fin cfg0.N, t.val < 16 → (cfg0.win 7).flush t = false := by decide +kernel
theorem flush_8 : ∀ t : Fin cfg0.N, t.val < 16 → (cfg0.win 8).flush t = false := by decide +kernel

/-- The body's obligation at every grid point. -/
theorem body_obligation (hG : Good m) (c : Dev nD) : BodyObligationLoose (dats m 0 c) (defs₀ (F := Ideal)) Variants.none () Set.univ := fun t => by
  have hrow : (defs₀ (F := Ideal)) .tc cfg0.body (cfg0.bodyArgs t (cfg0.slots t)) = bodyAt0 t := by
    unfold defs₀
    rw [Defs.onTc_tc]
  rw [bigSep_W0, bigSep_W0, hrow]
  by_cases h16 : t.val < 16
  · rw [(idle_7 t).trans (decide_eq_true h16), flush_7 t h16, flush_8 t h16]
    exact sound_fill m hG c t h16
  · rw [(idle_7 t).trans (decide_eq_false h16)]
    exact sound_apply m hG c t (by omega)

/-- Before the first point nothing is claimed of the scratch; -/
theorem held_in (c : Dev nD) : Pipeline.ΦA spec0 c ⊢ held m c 0 := by
  rw [scratch_eq]
  unfold held scratch
  iintro ⟨⟨⟨%a1, A1⟩, ⟨%a2, A2⟩, ⟨%a3, A3⟩, ⟨%g, G⟩, ⟨%k1, K1⟩, ⟨%k2, K2⟩⟩, R⟩
  isplitl [A1 A2 A3 G K1 K2]
  · iexists a1, a2, a3, g, k1, k2
    isplitr
    · ipureintro
      exact ⟨fun h => absurd h (by omega), fun R l hR h => absurd h (by omega), fun a R l hR h => absurd h (by omega), fun h => absurd h (by omega)⟩
    iframe
  iexact R
/-- and after the last one its contents are forgotten. -/
theorem held_out (c : Dev nD) (T : ℕ) : held m c T ⊢ Pipeline.ΦA spec0 c := by
  rw [scratch_eq]
  unfold held scratch
  iintro ⟨⟨%a1, %a2, %a3, %g, %k1, %k2, %hI, A1, A2, A3, G, K1, K2⟩, R⟩
  isplitl [A1 A2 A3 G K1 K2]
  · isplitl [A1]; · iexists _; iexact A1
    isplitl [A2]; · iexists _; iexact A2
    isplitl [A3]; · iexists _; iexact A3
    isplitl [G]; · iexists _; iexact G
    isplitl [K1]; · iexists _; iexact K1
    iexists _; iexact K2
  iexact R

set_option backward.isDefEq.respectTransparency.types false in
/-- The run of @main: every array ends at what the write-backs make of it, and every counter is zero. -/
theorem run_main (hG : Good m) : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (fun c => body_obligation m hG c) (fun c => (dats m 0 c).share_full fun _ => rfl) (fun _ _ => rfl) (V0 m) [hostOps1]
    sfx_sub sfx_fresh sfx_keeps (hmain m Variants.none) (fun _ _ => rfl) (fun c => held_in m c) (fun c => held_out m c _) _ (fun _ h => h)

end Cert.KernelIdeal.Track

end
-- ==== Proof.Precondition.lean ====
/- What the precondition says of the arguments: every scalar is a real number, and the 181 lengths are natural numbers that add up to
   the number of rows. -/
module

public import proofs.«01_k».proof.Pre_splits_cover
public import proofs.«01_k».proof.Defs
public import proofs.«01_k».proof.Proof.KernelIdealTrack
public import Idealize.ShloMosaic.Lib.ReduceAll
public import Idealize.ShloMosaic.Lib.Routing.Ops
public import Idealize.ShloMosaic.Lib.KernelVsHost

@[expose] public section

noncomputable section

namespace Cert.Precondition

open Idealize.ShloMosaic Idealize.ShloMosaic.TcCoe
open Cert.Segments Cert.Spec

variable [Cert.Pre_splits_cover.Facts]

theorem both_one : ∀ a b : BitVec 1, a &&& b = 1#1 → a = 1#1 ∧ b = 1#1 := by decide

/-- A word between 0 and 16290 as a signed number is the natural number it holds. -/
theorem word_le (a : BitVec 32) (h0 : IntOp.cmpi .sge a 0#32 = 1#1) (h1 : IntOp.cmpi .sle a 16290#32 = 1#1) : a.toNat ≤ 16290 := by
  have e0 : (0#32).sle a = true := by
    cases h : (0#32).sle a with
    | true => rfl
    | false => exact absurd ((congrArg BitVec.ofBool h).symm.trans h0) (by decide)
  have e1 : a.sle 16290#32 = true := by
    cases h : a.sle 16290#32 with
    | true => rfl
    | false => exact absurd ((congrArg BitVec.ofBool h).symm.trans h1) (by decide)
  rw [BitVec.sle_iff_toInt_le] at e0 e1
  rw [show (0#32).toInt = 0 from rfl] at e0
  rw [show (16290#32).toInt = 16290 from rfl] at e1
  rw [BitVec.toInt_eq_toNat_cond] at e0 e1
  have := a.isLt
  split at e0 <;> split at e1 <;> omega

/-- A value whose magnitude is below the infinity is a real number. -/
theorem real_of_abs (x : EReal) (h : Ideal.cmp .olt (max x (-x)) (Ideal.ofBits .f32 0x7F800000#32) = 1#1) : ∃ y : ℝ, x = (y : EReal) := by
  have htop : Ideal.ofBits .f32 0x7F800000#32 = ⊤ := by simp [Ideal.ofBits, Ideal.ieee]
  rw [htop] at h
  induction x using EReal.rec with
  | bot => simp [Ideal.cmp] at h
  | coe y => exact ⟨y, rfl⟩
  | top => simp [Ideal.cmp] at h

variable (x0 : FVec Ideal Pre_splits_cover.S16290x256 .f32) (x1 : FVec Ideal Pre_splits_cover.S16290x3x256 .f32)
    (x2 : IVec Pre_splits_cover.S181 32) (x3 x4 : FVec Ideal Pre_splits_cover.S256 .f32)
    (hp : Pre_splits_cover.fn x0 x1 x2 x3 x4 = fun _ => 1#1)

include hp

/-- Every scalar is a real number. -/
theorem scalars_real (i : Pre_splits_cover.S16290x256.Idx) : ∃ y : ℝ, x0 i = (y : EReal) :=
  real_of_abs _ (both_one _ _ (congrFun hp i)).1

/-- Every length is at most 16290. -/
theorem lengths_le (g : Fin 181) : (x2 (ValueIdx.ix1 g)).toNat ≤ 16290 := by
  have h := (both_one _ _ (both_one _ _ (congrFun hp (ValueIdx.ix2 (0 : Fin 16290) (0 : Fin 256)))).2).1
  haveI : Subsingleton Pre_splits_cover.S_.Idx := ⟨fun a b => funext fun k => k.elim0⟩
  have h' := both_one _ _ (Host.reduce_andi_all _ _ _ _ _ h (ValueIdx.ix1 g))
  exact word_le _ h'.1 h'.2

/-- The lengths, each as the natural number `n` names, add up to 16290. -/
theorem lengths_total (n : ℕ → ℕ) (hn : ∀ g : Fin 181, x2 (ValueIdx.ix1 g) = BitVec.ofNat 32 (n g.val)) (hle : ∀ g < 181, n g ≤ 16290) :
    first n 181 = 16290 := by
  have h := (both_one _ _ (both_one _ _ (congrFun hp (ValueIdx.ix2 (0 : Fin 16290) (0 : Fin 256)))).2).2
  have hs := Routing.reduce_sum (N := 181) x2 n hn Pre_splits_cover.Facts.reducesTo_S181_S_d0 Pre_splits_cover.Facts.h_S_
  rw [list_sum_range] at hs
  have hb : first n 181 ≤ 181 * 16290 := by
    refine (Finset.sum_le_card_nsmul (Finset.range 181) n 16290 fun g hg => hle g (Finset.mem_range.1 hg)).trans ?_
    rw [Finset.card_range, smul_eq_mul]
  have he : BitVec.ofNat 32 (first n 181) = 16290#32 := by
    have h' : IntOp.cmpi .eq (BitVec.ofNat 32 (first n 181)) 16290#32 = 1#1 := by
      rw [← hs]
      refine Eq.trans ?_ h
      exact congrArg (fun j => IntOp.cmpi .eq (Host.reduce IntOp.addi x2 (constantI Pre_splits_cover.S_ 32 0#32) Pre_splits_cover.Facts.reducesTo_S181_S_d0 Pre_splits_cover.Facts.h_S_ j) 16290#32) (funext fun k => k.elim0)
    by_contra hne
    have : (BitVec.ofNat 32 (first n 181) == 16290#32) = false := beq_eq_false_iff_ne.2 hne
    exact absurd ((congrArg BitVec.ofBool this).symm.trans h') (by decide)
  have := congrArg BitVec.toNat he
  rw [BitVec.toNat_ofNat, BitVec.toNat_ofNat] at this
  omega

end Cert.Precondition

namespace Cert.Precondition

open Idealize.ShloMosaic Idealize.ShloMosaic.TcCoe
open Cert.Segments Cert.Spec Cert.KernelIdeal Cert.KernelIdeal.Blocks Cert.KernelIdeal.Track

/-- The precondition gives what the run needs. -/
theorem good [Cert.Pre_splits_cover.Facts] (m : (ℓ : Loc nD τ sig) → Buf (Elt Ideal) ℓ) (h : Cert.Pre_KernelIdeal_splits_cover m) : Good m where
  total c := lengths_total _ _ _ _ _ (h c) (num m c) (num_word m c) fun g hg => by
    unfold num
    rw [dif_pos hg]
    exact lengths_le _ _ _ _ _ (h c) ⟨g, hg⟩
  real c := by
    have hr : ∀ (r : ℕ) (l : Fin 256), ∃ y : ℝ, sR m c r l = (y : EReal) := fun r l => by
      show ∃ y : ℝ, (if hh : r < 16290 then _ else _) = _
      split
      · exact scalars_real _ _ _ _ _ (h c) _
      · exact ⟨0, rfl⟩
    choose y hy using hr
    exact ⟨y, hy⟩

end Cert.Precondition

end
-- ==== Proof.KernelValue.lean ====
/- The two result arrays of the idealized kernel, entry by entry, at the end of the run. -/
module

public import proofs.«01_k».proof.Proof.KernelIdealTrack

@[expose] public section

set_option maxRecDepth 16384

noncomputable section

namespace Cert.KernelIdeal.Track

open Cert.KernelIdeal Cert.KernelIdeal.Gen Cert.KernelIdeal.Blocks
open Idealize.ShloMosaic Idealize.ShloMosaic.TcCoe
open Idealize.ShloMosaic.Pipeline

variable (m : (ℓ : Loc nD τ sig) → Buf (Elt Ideal) ℓ) (ρ : Dev nD → PrngReg)

/-- The first output array after the last point. -/
theorem array_7 (c : Dev nD) : (dats m 0 c).arrAt 7 cfg0.N = fun i : S16290x256.Idx => res1 m c (i 0).val (i 1) := by
  refine (dats m 0 c).arrAt_eq_of_covers 7 _ (by decide +kernel) fun t ht y => ?_
  have h16 : 16 ≤ t.val := Nat.le_of_not_lt fun h => absurd ((flush_7 t h).symm.trans ht) (by decide)
  have e := index_7 t h16
  blk_simp [e]
  have e1 : (win0_7.blk t).view.emb y (1 : Fin 2) = (cfg0.win 7).xinj (cfg0.grid.coords t) y (1 : Fin 2) := Fin.ext (by blk_simp [e])
  rw [e1, Nat.mul_comm]
  rfl
/-- The second output array after the last point. -/
theorem array_8 (c : Dev nD) : (dats m 0 c).arrAt 8 cfg0.N = fun i : S3x16290x256.Idx => res2 m c (i 0) (i 1).val (i 2) := by
  refine (dats m 0 c).arrAt_eq_of_covers 8 _ (by decide +kernel) fun t ht y => ?_
  have h16 : 16 ≤ t.val := Nat.le_of_not_lt fun h => absurd ((flush_8 t h).symm.trans ht) (by decide)
  have e := index_8 t h16
  blk_simp [e]
  have e0 : (win0_8.blk t).view.emb y (0 : Fin 3) = (cfg0.win 8).xinj (cfg0.grid.coords t) y (0 : Fin 3) := Fin.ext (by blk_simp [e])
  have e2 : (win0_8.blk t).view.emb y (2 : Fin 3) = (cfg0.win 8).xinj (cfg0.grid.coords t) y (2 : Fin 3) := Fin.ext (by blk_simp [e])
  rw [e0, e2, Nat.mul_comm]
  rfl

/-- The second result: the second output array with its first two axes exchanged. -/
theorem tail_v12 (c : Dev nD) : Pipeline.afterTail₀ cfgs (dats m) 0 (V0 m) [hostOps1] c main_v12 = fun i : S16290x3x256.Idx => res2 m c (i 1) (i 0).val (i 2) := by
  have h8 : Pipeline.withArrays spec0 c (V0 m c) (fun w => (dats m 0 c).arrAt w cfg0.N) (Proc.devRef .tc main_v11_1) = fun i : S3x16290x256.Idx => res2 m c (i 0) (i 1).val (i 2) :=
    (Pipeline.withArrays_arr spec0 launch0.win.arr_inj c _ _ 8).trans (array_8 m c)
  show StableHlo.after [hostOps1].flatten _ (Proc.devRef .tc main_v12) = _
  simp only [hostOps1, List.flatten_cons, List.flatten_nil, List.append_nil]
  after_results
  refine (congrArg (fun z => transpose S16290x3x256 [1, 0, 2] z transposes_S3x16290x256_S16290x3x256_1_0_2) h8).trans (funext fun i => ?_)
  exact transpose_apply [1, 0, 2] _ transposes_S3x16290x256_S16290x3x256_1_0_2 i (ix3 (i 1) (i 0) (i 2)) fun b => by fin_cases b <;> rfl

/-- The run, with both results and the arguments named. -/
theorem values (hG : Good m) : θ_run defs (onTc (τ := τ) (main (F := Ideal))) ⟨m, fun _ => 0, ρ⟩ (fun r => (∀ c : Dev nD,
      r.2.mem ((c.tc : Thread nD τ).loc main_v11_0) = (fun i : S16290x256.Idx => res1 m c (i 0).val (i 1))
      ∧ r.2.mem ((c.tc : Thread nD τ).loc main_v12) = (fun i : S16290x3x256.Idx => res2 m c (i 1) (i 0).val (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c =>
      ⟨((h.1 c).1 7).trans (array_7 m c),
       ((h.1 c).2 main_v12 (Pipeline.mem_restRefs_of main_v12 (by decide) (by decide))).trans (tail_v12 m c),
       ((h.1 c).1 3).trans (((dats m 0 c).arrAt_in 3 rfl _).trans (V_main_arg0 m c)),
       ((h.1 c).2 main_arg1 (Pipeline.mem_restRefs_of main_arg1 (by decide) (by decide))).trans (W_main_arg1 m (dats m) c),
       ((h.1 c).2 main_arg2 (Pipeline.mem_restRefs_of main_arg2 (by decide) (by decide))).trans (W_main_arg2 m (dats m) c),
       ((h.1 c).2 main_arg3 (Pipeline.mem_restRefs_of main_arg3 (by decide) (by decide))).trans (W_main_arg3 m (dats m) c),
       ((h.1 c).2 main_arg4 (Pipeline.mem_restRefs_of main_arg4 (by decide) (by decide))).trans (W_main_arg4 m (dats m) c)⟩, h.2⟩)
    (run_main m ρ hG)

end Cert.KernelIdeal.Track

end
-- ==== Proof.ReferenceWords.lean ====
/- The reference program's integer operations read at an index: where each segment starts, and which segment each row is in. -/
module

public import proofs.«01_k».proof.Proof.Segments
public import proofs.«01_k».proof.Proof.Gen.ReferenceIdeal.Run
public import Idealize.ShloMosaic.Lib.Routing.OpsSearch
public import Idealize.ShloMosaic.Lib.ReduceAll
public import Idealize.ShloMosaic.Lib.WordCmp

@[expose] public section

noncomputable section

namespace Cert.ReferenceIdeal.Words

open Cert.ReferenceIdeal Cert.ReferenceIdeal.Gen Cert.ReferenceIdeal.Value Cert.Segments
open Idealize.ShloMosaic Idealize.ShloMosaic.Routing Idealize.ShloMosaic.ValueIdx Finset

/-! ## The operations, at any words -/

/-- The starts of the segments of lengths `n`: the lengths shifted by one place with 0 at the front, summed up. -/
theorem starts_at (x : IVec S181 32) (n : ℕ → ℕ) (hx : ∀ g : Fin 181, x (ix1 g) = BitVec.ofNat 32 (n g.val)) (g : Fin 181) :
    Host.reduceWindow IntOp.addi ![181] ![1] ![180] ![0] (Host.scatter scatter_S181_S1_S__n_0_0_0 (fun _ b => b)
        (concatenate S181 0 [⟨S1, (extractStridedSlice S1 ![180] x slices_S181_S1_180)⟩, ⟨S180, (extractStridedSlice S180 ![0] x slices_S181_S180_0)⟩]
          concatenates_S1_S180_S181_d0) (broadcastInDim S1 ![] bcast_S_S1 (constantI S_ 32 0#32)) (constantI S_ 32 0#32))
      (broadcastInDim S_ ![] bcast_S_S_ (constantI S_ 32 0#32)) reduceWindows_S181_S181_w181s1p180_0 h_S_ (ix1 g)
      = BitVec.ofNat 32 (first n g.val) := by
  refine (cumsum1 (by decide) _ (fun i => if i = 0 then 0 else n (i - 1)) (fun i => ?_) _ rfl _ _ g).trans ?_
  · rw [scatter_one scatter_S181_S1_S__n_0_0_0 rfl rfl _ _ _ 0 (by decide) rfl i]
    by_cases h : i = 0
    · subst h; rfl
    · have hv : i.val ≠ 0 := fun e => h (Fin.ext e)
      rw [if_neg h]
      rw [if_neg hv]
      have hi := i.isLt
      have e : concatenate S181 0 [⟨S1, (extractStridedSlice S1 ![180] x slices_S181_S1_180)⟩, ⟨S180, (extractStridedSlice S180 ![0] x slices_S181_S180_0)⟩]
          concatenates_S1_S180_S181_d0 (ix1 i) = x (ix1 ⟨i.val - 1, by omega⟩) := by
        refine (concatenate_pair_apply_right (t := S181) (s₁ := S1) (s₂ := S180) 0 _ _ _ (ix1 i) rfl rfl (ix1 (⟨i.val - 1, by omega⟩ : Fin 180))
          (fun b hb => absurd (Subsingleton.elim (α := Fin 1) _ _) hb) ?_).trans ?_
        · show i.val - 1 + 1 = i.val
          omega
        · rw [slice1 0 x _ _ (by show 0 + (i.val - 1) < 181; omega)]
          exact congrArg (fun k => x (ix1 k)) (Fin.ext (Nat.zero_add _))
      rw [e, hx]
  · rw [list_sum_range]
    congr 1
    unfold first
    rw [sum_range_succ']
    simp

/-- The number, less one, of the segments beginning at or before a row is the row's segment. -/
theorem rows_at (x : IVec S181 32) (n : ℕ → ℕ) (hN : first n 181 = 16290) (hx : ∀ g : Fin 181, x (ix1 g) = BitVec.ofNat 32 (first n g.val))
    (r : Fin 16290) :
    subi (Host.reduceWindow IntOp.addi ![16290] ![1] ![16289] ![0] (Host.scatter scatter_S16290_S181x1_S181_n_0_0_1 IntOp.addi
        (broadcastInDim S16290 ![] bcast_S_S16290 (constantI S_ 32 0#32)) (broadcastInDim S181x1 ![0] bcast_S181_S181x1_0
          (select (cmpi .slt x (broadcastInDim S181 ![] bcast_S_S181 (constantI S_ 32 0#32)))
            (addi x (broadcastInDim S181 ![] bcast_S_S181 (constantI S_ 32 16290#32))) x))
        (broadcastInDim S181 ![] bcast_S_S181 (constantI S_ 32 1#32)))
      (broadcastInDim S_ ![] bcast_S_S_ (constantI S_ 32 0#32)) reduceWindows_S16290_S16290_w16290s1p16289_0 h_S_)
      (broadcastInDim S16290 ![] bcast_S_S16290 (constantI S_ 32 1#32)) (ix1 r)
      = BitVec.ofNat 32 (seg n r.val) := by
  have hle : ∀ g : Fin 181, first n g.val ≤ 16290 := fun g => hN ▸ first_mono n g.isLt.le
  have h1 : Host.reduceWindow IntOp.addi ![16290] ![1] ![16289] ![0] (Host.scatter scatter_S16290_S181x1_S181_n_0_0_1 IntOp.addi
        (broadcastInDim S16290 ![] bcast_S_S16290 (constantI S_ 32 0#32)) (broadcastInDim S181x1 ![0] bcast_S181_S181x1_0
          (select (cmpi .slt x (broadcastInDim S181 ![] bcast_S_S181 (constantI S_ 32 0#32)))
            (addi x (broadcastInDim S181 ![] bcast_S_S181 (constantI S_ 32 16290#32))) x))
        (broadcastInDim S181 ![] bcast_S_S181 (constantI S_ 32 1#32)))
      (broadcastInDim S_ ![] bcast_S_S_ (constantI S_ 32 0#32)) reduceWindows_S16290_S16290_w16290s1p16289_0 h_S_ (ix1 r)
      = BitVec.ofNat 32 (Nat.count (fun g => first n g ≤ r.val) 181) := by
    refine (cumsum1 (by decide) _ (fun y => Nat.count (fun g => first n g = y) 181) (fun i => ?_) _ rfl _ _ r).trans ?_
    · refine scatter_count scatter_S16290_S181x1_S181_n_0_0_1 rfl rfl rfl _ (fun _ => rfl) _ _ (fun _ => rfl) (first n) (fun g => ?_)
        (fun g => lt_of_le_of_lt (hle g) (by decide)) i
      rw [bcCol]
      refine Eq.trans (wrap_of_lt (x (ix1 g)) _ ?_) (hx g)
      rw [hx, BitVec.toNat_ofNat]
      have := hle g
      omega
    · exact congrArg _ (sum_count_eq (first n) r.val 181)
  refine (congrArg (fun w => IntOp.subi w 1#32) h1).trans ?_
  have hp := count_pos n r.val
  unfold seg
  generalize Nat.count (fun g => first n g ≤ r.val) 181 = k at hp
  obtain ⟨j, rfl⟩ : ∃ j, k = j + 1 := ⟨k - 1, by omega⟩
  show BitVec.ofNat 32 (j + 1) - 1#32 = BitVec.ofNat 32 (j + 1 - 1)
  rw [BitVec.ofNat_add, Nat.add_sub_cancel]
  exact BitVec.add_sub_cancel _ _

/-- The wrap of a segment number that counts from the end if negative changes nothing: the number is not negative. -/
theorem wrap_at (x : IVec S16290 32) (n : ℕ → ℕ) (hx : ∀ r : Fin 16290, x (ix1 r) = BitVec.ofNat 32 (seg n r.val)) (r : Fin 16290) :
    broadcastInDim S16290x1 ![0] bcast_S16290_S16290x1_0 (select (cmpi .slt x (broadcastInDim S16290 ![] bcast_S_S16290 (constantI S_ 32 0#32)))
      (addi x (broadcastInDim S16290 ![] bcast_S_S16290 (constantI S_ 32 181#32))) x) (ix2 r (0 : Fin 1))
      = BitVec.ofNat 32 (seg n r.val) := by
  rw [bcCol]
  refine Eq.trans (wrap_of_lt (x (ix1 r)) _ ?_) (hx r)
  rw [hx, BitVec.toNat_ofNat]
  have := seg_lt n r.val
  omega

/-- The mask that says a segment number is one of the 181 is true of every row. -/
theorem mask_at (x : IVec S16290x1 32) (n : ℕ → ℕ) (hx : ∀ r : Fin 16290, x (ix2 r (0 : Fin 1)) = BitVec.ofNat 32 (seg n r.val)) (r : Fin 16290) :
    Host.reduce IntOp.andi (andi (cmpi .sge x (broadcastInDim S16290x1 ![] bcast_S_S16290x1 (constantI S_ 32 0#32)))
      (cmpi .sle x (broadcastInDim S16290x1 ![0, 1] bcast_S1x1_S16290x1_0_1 (broadcastInDim S1x1 ![1] bcast_S1_S1x1_1 (constantI S1 32 180#32)))))
      (constantI S_ 1 1#1) reducesTo_S16290x1_S16290_d1 h_S_ (ix1 r) = 1#1 := by
  refine Host.reduce_andi_one _ _ _ _ _ rfl fun i => ?_
  obtain ⟨p, q, rfl⟩ : ∃ (p : Fin 16290) (q : Fin 1), i = ix2 p q := ⟨i 0, i 1, eq_ix2 i⟩
  obtain rfl : q = 0 := Subsingleton.elim _ _
  show IntOp.andi (IntOp.cmpi .sge (x (ix2 p 0)) 0#32) (IntOp.cmpi .sle (x (ix2 p 0)) 180#32) = 1#1
  rw [hx]
  have hs := seg_lt n p.val
  generalize seg n p.val = k at hs
  have h1 : IntOp.cmpi .sge (BitVec.ofNat 32 k) 0#32 = 1#1 := by
    rw [show (0#32 : BitVec 32) = BitVec.ofNat 32 0 from rfl, WordCmp.cmpi_sge_ofNat (by omega) (by omega)]
    exact (WordCmp.ofBool_decide_eq_one_iff _).2 (Nat.zero_le _)
  have h2 : IntOp.cmpi .sle (BitVec.ofNat 32 k) 180#32 = 1#1 := by
    rw [WordCmp.cmpi_sle_ofNat (by omega) (by omega)]
    exact (WordCmp.ofBool_decide_eq_one_iff _).2 (by omega)
  rw [h1, h2]
  rfl

/-! ## The program's own words -/

section Named

variable (V0 : Valuation τ sig (Elt Ideal)) (n : ℕ → ℕ) (hN : first n 181 = 16290)
  (hn : ∀ g : Fin 181, V0 (Proc.devRef .tc main_arg2) (ix1 g) = BitVec.ofNat 32 (n g.val))

include hN hn

/-- Before the first use of the segments: each row's word is its segment. -/
theorem v16_at (r : Fin 16290) : res_main_v16 V0 (ix1 r) = BitVec.ofNat 32 (seg n r.val) := by
  unfold res_main_v16
  exact rows_at _ n hN (fun g => by unfold res_main_v4; exact starts_at _ n hn g) r

theorem call3_at (r : Fin 16290) : res_main_call3_v5 V0 (ix2 r (0 : Fin 1)) = BitVec.ofNat 32 (seg n r.val) := by
  unfold res_main_call3_v5
  exact wrap_at _ n (v16_at V0 n hN hn) r

theorem call7_at (r : Fin 16290) : res_main_call7_v5 V0 (ix2 r (0 : Fin 1)) = BitVec.ofNat 32 (seg n r.val) := by
  unfold res_main_call7_v5 res_main_v70
  exact wrap_at _ n (rows_at _ n hN fun g => by unfold res_main_v58; exact starts_at _ n hn g) r

theorem call11_at (r : Fin 16290) : res_main_call11_v5 V0 (ix2 r (0 : Fin 1)) = BitVec.ofNat 32 (seg n r.val) := by
  unfold res_main_call11_v5 res_main_v115
  exact wrap_at _ n (rows_at _ n hN fun g => by unfold res_main_v103; exact starts_at _ n hn g) r

/-- The segment number of each row, as the reference takes it from the list of segment numbers. -/
theorem v17_at (r : Fin 16290) : res_main_v17 V0 (ix1 r) = BitVec.ofNat 32 (seg n r.val) := by
  unfold res_main_v17
  have hm := mask_at _ n (call3_at V0 n hN hn) r
  show Scalar.select _ _ _ = _
  rw [hm]
  refine Eq.trans (b := Host.gather gather_S181_S16290x1_S16290_n_0_n_n_0_1_1 (iotaInDim S181 32 0) (res_main_call3_v5 V0) (ix1 r)) rfl ?_
  rw [gather_take1 _ rfl rfl rfl rfl _ _ r ⟨seg n r.val, seg_lt n r.val⟩ (call3_at V0 n hN hn r) (by decide)]
  rfl

end Named

end Cert.ReferenceIdeal.Words
-- ==== Proof.ReferenceValues.lean ====
/- The reference program's two results read at an index. -/
module

public import proofs.«01_k».proof.Proof.ReferenceWords
public import proofs.«01_k».proof.Proof.Spec
public import Idealize.ShloMosaic.Lib.Pointwise

@[expose] public section

set_option maxRecDepth 16384

noncomputable section

namespace Cert.ReferenceIdeal.Values

open Cert.ReferenceIdeal Cert.ReferenceIdeal.Gen Cert.ReferenceIdeal.Value Cert.ReferenceIdeal.Words Cert.Segments Cert.Spec
open Idealize.ShloMosaic Finset

/-! ## The pieces, at any operands -/

section Pieces

variable (n : ℕ → ℕ) (sp : IVec S181 32) (hn : ∀ g : Fin 181, sp (ix1 g) = BitVec.ofNat 32 (n g.val)) (hlt : ∀ g : Fin 181, n g.val < 2 ^ 31)

/-- The counts, one column. -/
def counts : FVec Ideal S181x1 .f32 :=
  shapeCast S181x1 (sitofp (F := Ideal) .f32 (maxsi sp (broadcastInDim S181 ![] bcast_S_S181 (constantI S_ 32 1#32)))) shapeCasts_S181_S181x1

include hn hlt in
theorem counts_at (g : Fin 181) : (counts sp (ix2 g 0) : EReal) = cnt n g.val := by
  unfold counts
  pointwise []
  rw [hn]
  exact cnt_word n g.val (hlt g)

variable (seg' : IVec S16290 32) (hseg : ∀ r : Fin 16290, seg' (ix1 r) = BitVec.ofNat 32 (seg n r.val))

include hseg in
theorem column_at (r : Fin 16290) :
    broadcastInDim S16290x1 ![0] bcast_S16290_S16290x1_0 seg' (ValueIdx.ix2 r (0 : Fin 1)) = BitVec.ofNat 32 (seg n r.val) := by
  rw [Routing.bcCol, ← ix1_eq_valueIdx, hseg]

theorem seg_small (r : Fin 16290) : seg n r.val < 2 ^ 31 := (seg_lt n r.val).trans (by decide)

include hn hlt hseg in
/-- Rows summed by segment and divided by the counts. -/
theorem means_at (d : FVec Ideal S16290x256 .f32) (f : ℕ → Fin 256 → EReal) (hd : ∀ (r : Fin 16290) (l : Fin 256), d (ix2 r l) = f r.val l)
    (g : Fin 181) (l : Fin 256) :
    (Host.divf (Host.scatterAdd scatter_S181x256_S16290x1_S16290x256_1_0_0_1 (broadcastInDim S181x256 ![] bcast_S_S181x256 (constant S_ .f32 0x00000000#32))
        (broadcastInDim S16290x1 ![0] bcast_S16290_S16290x1_0 seg') d)
      (broadcastInDim S181x256 ![0, 1] bcast_S181x1_S181x256_0_1 (counts sp)) (ix2 g l) : EReal)
      = Ideal.div (segSum n (fun r => f r l) g.val) (cnt n g.val) := by
  pointwise []
  rw [counts_at n sp hn hlt g, ix2_eq_valueIdx, scatterAdd_rows _ rfl rfl rfl rfl _ _ _ (fun r => seg n r.val) (column_at n seg' hseg) (seg_small n)]
  congr 1
  unfold segSum
  rw [← Fin.sum_univ_eq_sum_range (fun r => if seg n r = g.val then f r l else 0) 16290]
  refine Eq.trans (congrArg (· + _) ?_) (zero_add _) |>.trans (sum_congr rfl fun r _ => ?_)
  · rw [← ix2_eq_valueIdx]; pointwise []
  · rw [← ix2_eq_valueIdx, hd]

include hn hlt hseg in
/-- The same of a column. -/
theorem mean_col_at (d : FVec Ideal S16290x1 .f32) (f : ℕ → EReal) (hd : ∀ r : Fin 16290, d (ix2 r 0) = f r.val) (g : Fin 181) :
    (Host.divf (Host.scatterAdd scatter_S181x1_S16290x1_S16290x1_1_0_0_1 (broadcastInDim S181x1 ![] bcast_S_S181x1 (constant S_ .f32 0x00000000#32))
        (broadcastInDim S16290x1 ![0] bcast_S16290_S16290x1_0 seg') d) (counts sp) (ix2 g 0) : EReal)
      = Ideal.div (segSum n f g.val) (cnt n g.val) := by
  pointwise []
  rw [counts_at n sp hn hlt g, ix2_eq_valueIdx, scatterAdd_rows _ rfl rfl rfl rfl _ _ _ (fun r => seg n r.val) (column_at n seg' hseg) (seg_small n)]
  congr 1
  unfold segSum
  rw [← Fin.sum_univ_eq_sum_range (fun r => if seg n r = g.val then f r else 0) 16290]
  refine Eq.trans (congrArg (· + _) ?_) (zero_add _) |>.trans (sum_congr rfl fun r _ => ?_)
  · rw [← ix2_eq_valueIdx]; pointwise []
  · rw [← ix2_eq_valueIdx, hd]

/-- A column taken at the rows an index column names, where the index is in range. -/
def taken (x : FVec Ideal S181x1 .f32) (idx : IVec S16290x1 32) : FVec Ideal S16290x1 .f32 :=
  select (broadcastInDim S16290x1 ![0] bcast_S16290_S16290x1_0 (Host.reduce IntOp.andi (andi (cmpi .sge idx (broadcastInDim S16290x1 ![] bcast_S_S16290x1 (constantI S_ 32 0#32)))
      (cmpi .sle idx (broadcastInDim S16290x1 ![0, 1] bcast_S1x1_S16290x1_0_1 (broadcastInDim S1x1 ![1] bcast_S1_S1x1_1 (constantI S1 32 180#32)))))
      (constantI S_ 1 1#1) reducesTo_S16290x1_S16290_d1 h_S_)) (Host.gather gather_S181x1_S16290x1_S16290x1_1_0_n_n_0_1_11 x idx)
      (broadcastInDim S16290x1 ![] bcast_S_S16290x1 (constant S_ .f32 0x7FC00000#32))

/-- A column taken at the segment numbers holds each row's segment's entry. -/
theorem taken_at (x : FVec Ideal S181x1 .f32) (idx : IVec S16290x1 32)
    (hi : ∀ r : Fin 16290, idx (ValueIdx.ix2 r (0 : Fin 1)) = BitVec.ofNat 32 (seg n r.val)) (f : ℕ → EReal)
    (hx : ∀ g : Fin 181, x (ix2 g 0) = f g.val) (r : Fin 16290) : taken x idx (ix2 r 0) = f (seg n r.val) := by
  have hm := mask_at idx n hi r
  rw [← ix1_eq_valueIdx] at hm
  unfold taken
  generalize Host.reduce IntOp.andi _ _ _ _ = mask at hm ⊢
  have hg : Host.gather gather_S181x1_S16290x1_S16290x1_1_0_n_n_0_1_11 x idx (ix2 r 0) = f (seg n r.val) := by
    rw [ix2_eq_valueIdx, Routing.gather_row _ rfl rfl rfl rfl rfl x idx r 0 ⟨seg n r.val, seg_lt n r.val⟩ (hi r) (by decide), ← ix2_eq_valueIdx]
    exact hx _
  generalize Host.gather gather_S181x1_S16290x1_S16290x1_1_0_n_n_0_1_11 x idx = y at hg ⊢
  pointwise []
  rw [hm, hg]
  rfl

/-- The mean over the channels of a matrix, one column. -/
theorem rowmean_at (M : FVec Ideal S181x256 .f32) (f : ℕ → Fin 256 → EReal) (hM : ∀ (g : Fin 181) (l : Fin 256), M (ix2 g l) = f g.val l) (g : Fin 181) :
    (Host.divf (broadcastInDim S181x1 ![0] bcast_S181_S181x1_0 (Host.reduceAdd M (constant S_ .f32 0x00000000#32) reducesTo_S181x256_S181_d1 h_S_))
      (broadcastInDim S181x1 ![] bcast_S_S181x1 (constant S_ .f32 0x43800000#32)) (ix2 g 0) : EReal) = Ideal.div (∑ l, f g.val l) c256 := by
  pointwise []
  simp only [hM]
  rfl

/-- The mean over the channels of the lengths of the vectors. -/
theorem norms_at (v : FVec Ideal S16290x3x256 .f32) (r : Fin 16290) :
    (Host.divf (broadcastInDim S16290x1 ![0] bcast_S16290_S16290x1_0 (Host.reduceAdd (Host.sqrt (addf (Host.reduceAdd (mulf v v) (constant S_ .f32 0x00000000#32)
        reducesTo_S16290x3x256_S16290x256_d1 h_S_) (broadcastInDim S16290x256 ![] bcast_S_S16290x256 (constant S_ .f32 0x358637BD#32))))
        (constant S_ .f32 0x00000000#32) reducesTo_S16290x256_S16290_d1 h_S_))
      (broadcastInDim S16290x1 ![] bcast_S_S16290x1 (constant S_ .f32 0x43800000#32)) (ix2 r 0) : EReal)
      = Ideal.div (∑ l, nrm (rows3 v) r.val l) c256 := by
  pointwise []
  refine congrArg (fun z : EReal => Ideal.div z c256) (sum_congr rfl fun l _ => ?_)
  unfold nrm
  rw [Fin.sum_univ_three]
  simp only [rows3_fin]
  rfl

/-- The first result's last operations, at an index. -/
theorem normalised_at (d : FVec Ideal S16290x256 .f32) (t : FVec Ideal S16290x1 .f32) (w b : FVec Ideal S256 .f32) (r : Fin 16290) (l : Fin 256) :
    (addf (mulf (Host.divf d (broadcastInDim S16290x256 ![0, 1] bcast_S16290x1_S16290x256_0_1 (Host.sqrt (addf t
      (broadcastInDim S16290x1 ![] bcast_S_S16290x1 (constant S_ .f32 0x358637BD#32))))))
      (broadcastInDim S16290x256 ![0, 1] bcast_S1x256_S16290x256_0_1 (broadcastInDim S1x256 ![1] bcast_S256_S1x256_1 w)))
      (broadcastInDim S16290x256 ![0, 1] bcast_S1x256_S16290x256_0_1 (broadcastInDim S1x256 ![1] bcast_S256_S1x256_1 b)) (ix2 r l) : EReal)
      = Ideal.div (d (ix2 r l)) (Ideal.sqrt (t (ix2 r 0) + eps)) * w (ix1 l) + b (ix1 l) := by
  pointwise []
  rfl

/-- The second result's last operations, at an index. -/
theorem scaled_at (v : FVec Ideal S16290x3x256 .f32) (t : FVec Ideal S16290x1 .f32) (r : Fin 16290) (a : Fin 3) (l : Fin 256) :
    (Host.divf v (broadcastInDim S16290x3x256 ![0, 1, 2] bcast_S16290x1x1_S16290x3x256_0_1_2 (broadcastInDim S16290x1x1 ![0, 1] bcast_S16290x1_S16290x1x1_0_1 t)) (ix3 r a l) : EReal)
      = Ideal.div (v (ix3 r a l)) (t (ix2 r 0)) := by
  pointwise []

end Pieces

/-! ## The two results -/

theorem sub_congr (a : EReal) {x y : EReal} (h : x = y) : a - x = a - y := by rw [h]

section Results

variable (V0 : Valuation τ sig (Elt Ideal)) (n : ℕ → ℕ) (hN : first n 181 = 16290)
  (hn : ∀ g : Fin 181, V0 (Proc.devRef .tc main_arg2) (ix1 g) = BitVec.ofNat 32 (n g.val)) (hlt : ∀ g : Fin 181, n g.val < 2 ^ 31)

/-- The scalars, by row number. -/
abbrev sRows : ℕ → Fin 256 → EReal := rows2 (V0 (Proc.devRef .tc main_arg0))
/-- The vectors, by row number. -/
abbrev vRows : ℕ → Fin 3 → Fin 256 → EReal := rows3 (V0 (Proc.devRef .tc main_arg1))

theorem v23_at (r : Fin 16290) (l : Fin 256) : (res_main_v23 V0 (ix2 r l) : EReal) = cen (sRows V0) r.val l := by
  unfold cen
  simp only [sRows, rows2_fin]
  generalize hs : V0 (Proc.devRef .tc main_arg0) = s
  unfold res_main_v23
  rw [hs]
  pointwise []
  rfl

include hN hn in
theorem v17_at' (r : Fin 16290) : res_main_v17 V0 (ix1 r) = BitVec.ofNat 32 (seg n r.val) := by
  rw [ix1_eq_valueIdx]
  exact v17_at V0 n hN (fun g => by rw [← ix1_eq_valueIdx]; exact hn g) r

include hN hn hlt in
theorem v40_at (r : Fin 16290) (l : Fin 256) : (res_main_v40 V0 (ix2 r l) : EReal) = dev n (sRows V0) r.val l := by
  unfold dev mean
  rw [← v23_at V0 r l]
  have hm := fun g => means_at n _ hn hlt _ (v17_at' V0 n hN hn) (res_main_v23 V0) (cen (sRows V0)) (v23_at V0) g l
  have hw := wrap_at _ n fun r => (ix1_eq_valueIdx r ▸ v17_at' V0 n hN hn r)
  unfold counts at hm
  unfold res_main_v40
  pointwise []
  refine sub_congr _ ?_
  rw [ix2_eq_valueIdx, Routing.gather_row _ rfl rfl rfl rfl rfl _ _ r l ⟨seg n r.val, seg_lt n r.val⟩ (hw r) (by decide), ← ix2_eq_valueIdx]
  exact hm ⟨seg n r.val, seg_lt n r.val⟩

include hN hn hlt in
/-- The first result. -/
theorem result1 (r : Fin 16290) (l : Fin 256) :
    val3 V0 (Proc.devRef .tc main_v82) (ix2 r l)
      = out1 n (sRows V0) (fun l => V0 (Proc.devRef .tc main_arg3) (ix1 l)) (fun l => V0 (Proc.devRef .tc main_arg4) (ix1 l)) r.val l := by
  refine (congrFun (val3_main_v82 V0) (ix2 r l)).trans ?_
  refine (normalised_at (res_main_v40 V0) (taken _ _) _ _ r l).trans ?_
  have ht := taken_at n _ _ (call7_at V0 n hN fun g => by rw [← ix1_eq_valueIdx]; exact hn g) (var n (sRows V0))
    (rowmean_at _ (fun g l => Ideal.div (segSum n (fun r => dev n (sRows V0) r l * dev n (sRows V0) r l) g) (cnt n g))
      (means_at n _ hn hlt _ (v17_at' V0 n hN hn) (mulf (res_main_v40 V0) (res_main_v40 V0)) (fun r l => dev n (sRows V0) r l * dev n (sRows V0) r l) fun r l => by
        rw [← v40_at V0 n hN hn hlt r l]; rfl)) r
  unfold counts at ht
  rw [v40_at V0 n hN hn hlt r l, ht]
  rfl

include hN hn hlt in
/-- The second result. -/
theorem result2 (r : Fin 16290) (a : Fin 3) (l : Fin 256) :
    val3 V0 (Proc.devRef .tc main_v119) (ix3 r a l) = out2 n (vRows V0) r.val a l := by
  refine (congrFun (val3_main_v119 V0) (ix3 r a l)).trans ?_
  refine (scaled_at _ (taken _ _) r a l).trans ?_
  have ht := taken_at n _ _ (call11_at V0 n hN fun g => by rw [← ix1_eq_valueIdx]; exact hn g) (scale n (vRows V0))
    (mean_col_at n _ hn hlt _ (v17_at' V0 n hN hn) _ (fun r => Ideal.div (∑ l, nrm (vRows V0) r l) c256) fun r => norms_at _ r) r
  unfold counts at ht
  unfold out2
  rw [show vRows V0 r.val a l = _ from rows3_fin _ r a l, ht]

end Results

end Cert.ReferenceIdeal.Values
-- ==== Proof.Agree.lean ====
/- The reference's two results are the functions of the arguments that the kernel's two results are. -/
module

public import proofs.«01_k».proof.Proof.KernelValue
public import proofs.«01_k».proof.Proof.ReferenceValues
public import Idealize.ShloMosaic.Adequacy

@[expose] public section

set_option maxRecDepth 8192

noncomputable section

namespace Cert.Agree

open Idealize.ShloMosaic Idealize.ShloMosaic.TcCoe Idealize.SL.Sem
open Cert.Segments Cert.Spec
open Cert.KernelIdeal.Track (Good res1 res2)
open Cert.KernelIdeal.Blocks (num num_word)

variable (m : (ℓ : Loc KernelIdeal.nD KernelIdeal.τ KernelIdeal.sig) → Buf (Elt Ideal) ℓ) (hG : Good m) (c : Dev KernelIdeal.nD)
variable (V : Valuation ReferenceIdeal.τ ReferenceIdeal.sig (Elt Ideal))
variable (h0 : V (Proc.devRef .tc ReferenceIdeal.main_arg0) = m ((c.tc : Thread KernelIdeal.nD KernelIdeal.τ).loc KernelIdeal.main_arg0))
variable (h1 : V (Proc.devRef .tc ReferenceIdeal.main_arg1) = m ((c.tc : Thread KernelIdeal.nD KernelIdeal.τ).loc KernelIdeal.main_arg1))
variable (h2 : V (Proc.devRef .tc ReferenceIdeal.main_arg2) = m ((c.tc : Thread KernelIdeal.nD KernelIdeal.τ).loc KernelIdeal.main_arg2))
variable (h3 : V (Proc.devRef .tc ReferenceIdeal.main_arg3) = m ((c.tc : Thread KernelIdeal.nD KernelIdeal.τ).loc KernelIdeal.main_arg3))
variable (h4 : V (Proc.devRef .tc ReferenceIdeal.main_arg4) = m ((c.tc : Thread KernelIdeal.nD KernelIdeal.τ).loc KernelIdeal.main_arg4))

include h2 in
/-- The reference's lengths are the words of the kernel's. -/
theorem words (g : Fin 181) : (V (Proc.devRef .tc ReferenceIdeal.main_arg2) : IVec ReferenceIdeal.S181 32) (ix1 g) = BitVec.ofNat 32 (num m c g.val) := by
  rw [ix1_eq_valueIdx]
  exact (congrFun h2 (ValueIdx.ix1 g)).trans (num_word m c g)

include hG h0 h2 h3 h4 in
/-- The first result. -/
theorem first_result : ReferenceIdeal.Value.val3 V (Proc.devRef .tc ReferenceIdeal.main_v82)
    = fun i : ReferenceIdeal.S16290x256.Idx => res1 m c (i 0).val (i 1) := by
  funext i
  have hi : i = ix2 (i 0) (i 1) := funext fun a => by fin_cases a <;> rfl
  refine (congrArg (ReferenceIdeal.Value.val3 V (Proc.devRef .tc ReferenceIdeal.main_v82)) hi).trans ?_
  refine (ReferenceIdeal.Values.result1 V (num m c) (hG.total c) (words m c V h2) (fun g => hG.small c g.val g.isLt) (i 0) (i 1)).trans ?_
  have es : ReferenceIdeal.Values.sRows V = KernelIdeal.Track.sR m c := congrArg rows2 h0
  have ew : (fun l : Fin 256 => (V (Proc.devRef .tc ReferenceIdeal.main_arg3) : FVec Ideal ReferenceIdeal.S256 .f32) (ix1 l)) = KernelIdeal.Track.wR m c :=
    funext fun l => by rw [ix1_eq_valueIdx]; exact congrFun h3 _
  have eb : (fun l : Fin 256 => (V (Proc.devRef .tc ReferenceIdeal.main_arg4) : FVec Ideal ReferenceIdeal.S256 .f32) (ix1 l)) = KernelIdeal.Track.bR m c :=
    funext fun l => by rw [ix1_eq_valueIdx]; exact congrFun h4 _
  unfold res1
  rw [← es, ← ew, ← eb]

include hG h1 h2 in
/-- The second result. -/
theorem second_result : ReferenceIdeal.Value.val3 V (Proc.devRef .tc ReferenceIdeal.main_v119)
    = fun i : ReferenceIdeal.S16290x3x256.Idx => res2 m c (i 1) (i 0).val (i 2) := by
  funext i
  have hi : i = ix3 (i 0) (i 1) (i 2) := funext fun a => by fin_cases a <;> rfl
  refine (congrArg (ReferenceIdeal.Value.val3 V (Proc.devRef .tc ReferenceIdeal.main_v119)) hi).trans ?_
  refine (ReferenceIdeal.Values.result2 V (num m c) (hG.total c) (words m c V h2) (fun g => hG.small c g.val g.isLt) (i 0) (i 1) (i 2)).trans ?_
  have ev : ReferenceIdeal.Values.vRows V = KernelIdeal.Track.vR m c := congrArg rows3 h1
  unfold res2
  rw [← ev]

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Gen.Pre_splits_cover
public import proofs.«01_k».proof.Proof.Precondition
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem

/-- The reference ends, its arguments are unchanged and every semaphore counter is zero (it has none). -/
theorem quiescent_reference : quiescent_ReferenceIdeal (hReferenceIdeal := Cert.ReferenceIdeal.Gen.facts) := fun m g _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m g)

/-- The reference's run, its two results named as the contents its operations leave. -/
theorem reference_run (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ fun r => ∀ c : Dev ReferenceIdeal.nD,
      r.2.mem ((c.tc : Thread ReferenceIdeal.nD ReferenceIdeal.τ).loc ReferenceIdeal.main_v82) = ReferenceIdeal.Value.val3 (StableHlo.launchContents m c) (Proc.devRef .tc ReferenceIdeal.main_v82)
      ∧ r.2.mem ((c.tc : Thread ReferenceIdeal.nD ReferenceIdeal.τ).loc ReferenceIdeal.main_v119) = ReferenceIdeal.Value.val3 (StableHlo.launchContents m c) (Proc.devRef .tc ReferenceIdeal.main_v119)
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4) :=
  (θ_run ReferenceIdeal.defs _ _).mono (fun _ h c =>
      ⟨(h c).1.trans (ReferenceIdeal.Value.val3_main_v82 (StableHlo.launchContents m c)).symm,
       (h c).2.1.trans (ReferenceIdeal.Value.val3_main_v119 (StableHlo.launchContents m c)).symm, (h c).2.2⟩)
    (ReferenceIdeal.Value.run (F := Ideal) m g)

/-- Over the extended reals, on arguments that meet the precondition, the kernel's two results are the reference's. -/
theorem algebraic : algebraic_KernelIdeal_ReferenceIdeal_pre_splits_cover (hKernelIdeal := Cert.KernelIdeal.Gen.facts)
    (hReferenceIdeal := Cert.ReferenceIdeal.Gen.facts) (hPre_splits_cover := Cert.Pre_splits_cover.Gen.facts) := fun m g m' g' hp hargs =>
  have hG := Cert.Precondition.good m hp
  ⟨fun c => fun i => Cert.KernelIdeal.Track.res1 m c (i 0).val (i 1), fun c => fun i => Cert.KernelIdeal.Track.res2 m c (i 1) (i 0).val (i 2),
    (θ_run Cert.KernelIdeal.defs _ _).mono (fun _ h => h.1) (Cert.KernelIdeal.Track.values m g hG),
    (θ_run Cert.ReferenceIdeal.defs _ _).mono (fun _ h c =>
        ⟨(h c).1.trans (Cert.Agree.first_result m hG c (StableHlo.launchContents m' c) (hargs c).1 (hargs c).2.2.1 (hargs c).2.2.2.1 (hargs c).2.2.2.2),
         (h c).2.1.trans (Cert.Agree.second_result m hG c (StableHlo.launchContents m' c) (hargs c).2.1 (hargs c).2.2.1), (h c).2.2⟩)
      (reference_run m' g')⟩

/-- The certificate: the three programs run and change no argument, the kernel read over the extended reals is the kernel's own text,
    and its two results are the reference's. -/
theorem claim : Cert.Claim := ⟨Cert.Kernel.Gen.facts, Cert.KernelIdeal.Gen.facts, Cert.ReferenceIdeal.Gen.facts, Cert.Pre_splits_cover.Gen.facts,
  fun m g _ => Cert.Kernel.Run.frame (F := Bits) m g,
  fun m g _ => Cert.KernelIdeal.Run.frame (F := Ideal) m g,
  fun m g _ => Cert.KernelIdeal.Run.frame (F := Ideal) m g,
  quiescent_reference,
  fun m g _ => quiescent_reference m g trivial,
  trivial,
  algebraic⟩

end Cert.Proof

end
